-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  IdealRules.named_const.Statement Cert.Kernel4Ideal.κ "mask" .f32 0xF149F2CA#32 ⊥

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v29) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v14)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v14) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v11) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v18) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v11)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v11) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v23) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v6)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v6) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v22) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Kernel.lean ====
abbrev S32768x2048 : Shape := ⟨2, ![32768, 2048]⟩
abbrev S2048 : Shape := ⟨1, ![2048]⟩
abbrev S2048x8192 : Shape := ⟨2, ![2048, 8192]⟩
abbrev S8192x2048 : Shape := ⟨2, ![8192, 2048]⟩
abbrev S1x2048 : Shape := ⟨2, ![1, 2048]⟩
abbrev S512x2048 : Shape := ⟨2, ![512, 2048]⟩
abbrev S2048x1024 : Shape := ⟨2, ![2048, 1024]⟩
abbrev S1024x2048 : Shape := ⟨2, ![1024, 2048]⟩
abbrev S512 : Shape := ⟨1, ![512]⟩
abbrev S512x1 : Shape := ⟨2, ![512, 1]⟩
abbrev S512x1024 : Shape := ⟨2, ![512, 1024]⟩

abbrev nBuf : Space → Nat
  | .hbm => 10
  | .vmem => 12
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S2048, .f32⟩
  | .hbm, ⟨5, _⟩ => ⟨S2048x8192, .bf16⟩
  | .hbm, ⟨6, _⟩ => ⟨S8192x2048, .bf16⟩
  | .hbm, ⟨7, _⟩ => ⟨S1x2048, .f32⟩
  | .hbm, ⟨8, _⟩ => ⟨S1x2048, .f32⟩
  | .hbm, ⟨9, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x2048, .bf16⟩
  | .local _ .vmem, ⟨6, _⟩ => ⟨S1024x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![64, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S32768x2048 : Shape := ⟨2, ![32768, 2048]⟩
abbrev S2048 : Shape := ⟨1, ![2048]⟩
abbrev S2048x8192 : Shape := ⟨2, ![2048, 8192]⟩
abbrev S8192x2048 : Shape := ⟨2, ![8192, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x8192 : Shape := ⟨2, ![32768, 8192]⟩

abbrev nBuf : Space → Nat
  | .hbm => 44
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S2048, .f32⟩
  | .hbm, ⟨5, _⟩ => ⟨S32768x2048, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x2048, .f32⟩
  | .hbm, ⟨17, _⟩ => ⟨S32768x2048, .f32⟩
  | .hbm, ⟨18, _⟩ => ⟨S1x2048, .f32⟩
  | .hbm, ⟨19, _⟩ => ⟨S32768x2048, .f32⟩
  | .hbm, ⟨20, _⟩ => ⟨S32768x2048, .f32⟩
  | .hbm, ⟨21, _⟩ => ⟨S32768x8192, .f32⟩
  | .hbm, ⟨22, _⟩ => ⟨S_, .f32⟩
  | .hbm, ⟨23, _⟩ => ⟨S32768x8192, .f32⟩
  | .hbm, ⟨24, _⟩ => ⟨S32768x8192, .f32⟩
  | .hbm, ⟨25, _⟩ => ⟨S32768x8192, .f32⟩
  | .hbm, ⟨26, _⟩ => ⟨S32768x2048, .f32⟩
  | .hbm, ⟨27, _⟩ => ⟨S32768x2048, .f32⟩
  | .hbm, ⟨28, _⟩ => ⟨S32768x2048, .f32⟩
  | .hbm, ⟨29, _⟩ => ⟨S_, .f32⟩
  | .hbm, ⟨30, _⟩ => ⟨S32768, .f32⟩
  | .hbm, ⟨31, _⟩ => ⟨S32768x1, .f32⟩
  | .hbm, ⟨32, _⟩ => ⟨S_, .f32⟩
  | .hbm, ⟨33, _⟩ => ⟨S32768x1, .f32⟩
  | .hbm, ⟨34, _⟩ => ⟨S32768x1, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S32768x1, .f32⟩
  | .hbm, ⟨39, _⟩ => ⟨S32768x2048, .f32⟩
  | .hbm, ⟨40, _⟩ => ⟨S32768x2048, .f32⟩
  | .hbm, ⟨41, _⟩ => ⟨S1x2048, .f32⟩
  | .hbm, ⟨42, _⟩ => ⟨S32768x2048, .f32⟩
  | .hbm, ⟨43, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Kernel2.lean ====
abbrev S32768x2048 : Shape := ⟨2, ![32768, 2048]⟩
abbrev S2048x2048 : Shape := ⟨2, ![2048, 2048]⟩
abbrev S2048 : Shape := ⟨1, ![2048]⟩
abbrev S2048x512 : Shape := ⟨2, ![2048, 512]⟩
abbrev S1024x1024 : Shape := ⟨2, ![1024, 1024]⟩
abbrev S512x2048 : Shape := ⟨2, ![512, 2048]⟩
abbrev S1x2048 : Shape := ⟨2, ![1, 2048]⟩
abbrev S256x1024 : Shape := ⟨2, ![256, 1024]⟩
abbrev S512 : Shape := ⟨1, ![512]⟩
abbrev S512x1 : Shape := ⟨2, ![512, 1]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩

abbrev nBuf : Space → Nat
  | .hbm => 12
  | .vmem => 12
  | .smem => 0
  | _ => 0

abbrev bufTy : (tb : Table) → Fin (tcTables nBuf tb) → BufTy
  | .hbm, ⟨0, _⟩ => ⟨S32768x2048, .f32⟩
  | .hbm, ⟨1, _⟩ => ⟨S32768x2048, .bf16⟩
  | .hbm, ⟨2, _⟩ => ⟨S2048x2048, .f32⟩
  | .hbm, ⟨3, _⟩ => ⟨S2048, .f32⟩
  | .hbm, ⟨4, _⟩ => ⟨S2048x512, .f32⟩
  | .hbm, ⟨5, _⟩ => ⟨S1024x1024, .bf16⟩
  | .hbm, ⟨6, _⟩ => ⟨S512x2048, .f32⟩
  | .hbm, ⟨7, _⟩ => ⟨S2048x2048, .bf16⟩
  | .hbm, ⟨8, _⟩ => ⟨S2048x512, .bf16⟩
  | .hbm, ⟨9, _⟩ => ⟨S512x2048, .bf16⟩
  | .hbm, ⟨10, _⟩ => ⟨S1x2048, .f32⟩
  | .hbm, ⟨11, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S1x2048, .f32⟩
  | .local _ .vmem, ⟨6, _⟩ => ⟨S2048x512, .bf16⟩
  | .local _ .vmem, ⟨7, _⟩ => ⟨S256x1024, .bf16⟩
  | .local _ .vmem, ⟨8, _⟩ => ⟨S256x1024, .bf16⟩
  | .local _ .vmem, ⟨9, _⟩ => ⟨S512x2048, .bf16⟩
  | .local _ .vmem, ⟨10, _⟩ => ⟨S512x2048, .f32⟩
  | .local _ .vmem, ⟨11, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S32768x2048 : Shape := ⟨2, ![32768, 2048]⟩
abbrev S2048x2048 : Shape := ⟨2, ![2048, 2048]⟩
abbrev S2048 : Shape := ⟨1, ![2048]⟩
abbrev S2048x512 : Shape := ⟨2, ![2048, 512]⟩
abbrev S1024x1024 : Shape := ⟨2, ![1024, 1024]⟩
abbrev S512x2048 : Shape := ⟨2, ![512, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x512 : Shape := ⟨2, ![32768, 512]⟩
abbrev S4x8192x4x128 : Shape := ⟨4, ![4, 8192, 4, 128]⟩
abbrev S4x256x2x4x128 : Shape := ⟨5, ![4, 256, 2, 4, 128]⟩
abbrev S4x256x1x4x128 : Shape := ⟨5, ![4, 256, 1, 4, 128]⟩
abbrev S4x256x4x128 : Shape := ⟨4, ![4, 256, 4, 128]⟩
abbrev S4x4x8192x256 : Shape := ⟨4, ![4, 4, 8192, 256]⟩
abbrev S4x4x8192 : Shape := ⟨3, ![4, 4, 8192]⟩
abbrev S4x4x8192x1 : Shape := ⟨4, ![4, 4, 8192, 1]⟩
abbrev S4x4x128x8192 : Shape := ⟨4, ![4, 4, 128, 8192]⟩

abbrev nBuf : Space → Nat
  | .hbm => 57
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x2048, .bf16⟩
  | .hbm, ⟨2, _⟩ => ⟨S2048x2048, .f32⟩
  | .hbm, ⟨3, _⟩ => ⟨S2048, .f32⟩
  | .hbm, ⟨4, _⟩ => ⟨S2048x512, .f32⟩
  | .hbm, ⟨5, _⟩ => ⟨S1024x1024, .bf16⟩
  | .hbm, ⟨6, _⟩ => ⟨S512x2048, .f32⟩
  | .hbm, ⟨7, _⟩ => ⟨S32768x2048, .f32⟩
  | .hbm, ⟨8, _⟩ => ⟨S32768x2048, .f32⟩
  | .hbm, ⟨9, _⟩ => ⟨S32768x2048, .f32⟩
  | .hbm, ⟨10, _⟩ => ⟨S32768x2048, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1, .f32⟩
  | .hbm, ⟨21, _⟩ => ⟨S32768x2048, .f32⟩
  | .hbm, ⟨22, _⟩ => ⟨S32768x2048, .f32⟩
  | .hbm, ⟨23, _⟩ => ⟨S1x2048, .f32⟩
  | .hbm, ⟨24, _⟩ => ⟨S32768x2048, .f32⟩
  | .hbm, ⟨25, _⟩ => ⟨S32768x2048, .f32⟩
  | .hbm, ⟨26, _⟩ => ⟨S32768x512, .f32⟩
  | .hbm, ⟨27, _⟩ => ⟨S4x8192x4x128, .f32⟩
  | .hbm, ⟨28, _⟩ => ⟨S1024x1024, .f32⟩
  | .hbm, ⟨29, _⟩ => ⟨S4x256x2x4x128, .f32⟩
  | .hbm, ⟨30, _⟩ => ⟨S4x256x1x4x128, .f32⟩
  | .hbm, ⟨31, _⟩ => ⟨S4x256x1x4x128, .f32⟩
  | .hbm, ⟨32, _⟩ => ⟨S4x256x4x128, .f32⟩
  | .hbm, ⟨33, _⟩ => ⟨S4x256x4x128, .f32⟩
  | .hbm, ⟨34, _⟩ => ⟨S4x4x8192x256, .f32⟩
  | .hbm, ⟨35, _⟩ => ⟨S_, .f32⟩
  | .hbm, ⟨36, _⟩ => ⟨S4x4x8192x256, .f32⟩
  | .hbm, ⟨37, _⟩ => ⟨S4x4x8192x256, .f32⟩
  | .hbm, ⟨38, _⟩ => ⟨S_, .f32⟩
  | .hbm, ⟨39, _⟩ => ⟨S4x4x8192, .f32⟩
  | .hbm, ⟨40, _⟩ => ⟨S_, .f32⟩
  | .hbm, ⟨41, _⟩ => ⟨S4x4x8192, .f32⟩
  | .hbm, ⟨42, _⟩ => ⟨S4x4x8192, .f32⟩
  | .hbm, ⟨43, _⟩ => ⟨S4x4x8192x1, .f32⟩
  | .hbm, ⟨44, _⟩ => ⟨S4x4x8192x256, .f32⟩
  | .hbm, ⟨45, _⟩ => ⟨S4x4x8192x256, .f32⟩
  | .hbm, ⟨46, _⟩ => ⟨S4x4x8192x256, .f32⟩
  | .hbm, ⟨47, _⟩ => ⟨S_, .f32⟩
  | .hbm, ⟨48, _⟩ => ⟨S4x4x8192, .f32⟩
  | .hbm, ⟨49, _⟩ => ⟨S4x4x8192x1, .f32⟩
  | .hbm, ⟨50, _⟩ => ⟨S4x4x8192x256, .f32⟩
  | .hbm, ⟨51, _⟩ => ⟨S4x4x8192x256, .f32⟩
  | .hbm, ⟨52, _⟩ => ⟨S4x4x128x8192, .f32⟩
  | .hbm, ⟨53, _⟩ => ⟨S4x8192x4x128, .f32⟩
  | .hbm, ⟨54, _⟩ => ⟨S32768x512, .f32⟩
  | .hbm, ⟨55, _⟩ => ⟨S32768x2048, .f32⟩
  | .hbm, ⟨56, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel3.lean ====
abbrev S32768x1024 : Shape := ⟨2, ![32768, 1024]⟩
abbrev S32768x2048 : Shape := ⟨2, ![32768, 2048]⟩
abbrev S2048x2048 : Shape := ⟨2, ![2048, 2048]⟩
abbrev S1024x2048 : Shape := ⟨2, ![1024, 2048]⟩
abbrev S1024x1024 : Shape := ⟨2, ![1024, 1024]⟩
abbrev S2048x512 : Shape := ⟨2, ![2048, 512]⟩
abbrev S1024x512 : Shape := ⟨2, ![1024, 512]⟩

abbrev nBuf : Space → Nat
  | .hbm => 14
  | .vmem => 20
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x1024, .bf16⟩
  | .hbm, ⟨3, _⟩ => ⟨S32768x1024, .bf16⟩
  | .hbm, ⟨4, _⟩ => ⟨S32768x2048, .bf16⟩
  | .hbm, ⟨5, _⟩ => ⟨S2048x2048, .f32⟩
  | .hbm, ⟨6, _⟩ => ⟨S2048x2048, .f32⟩
  | .hbm, ⟨7, _⟩ => ⟨S1024x2048, .f32⟩
  | .hbm, ⟨8, _⟩ => ⟨S1024x2048, .f32⟩
  | .hbm, ⟨9, _⟩ => ⟨S2048x2048, .bf16⟩
  | .hbm, ⟨10, _⟩ => ⟨S2048x2048, .bf16⟩
  | .hbm, ⟨11, _⟩ => ⟨S1024x2048, .bf16⟩
  | .hbm, ⟨12, _⟩ => ⟨S1024x2048, .bf16⟩
  | .hbm, ⟨13, _⟩ => ⟨S32768x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x2048, .bf16⟩
  | .local _ .vmem, ⟨9, _⟩ => ⟨S1024x2048, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S32768x1024 : Shape := ⟨2, ![32768, 1024]⟩
abbrev S32768x2048 : Shape := ⟨2, ![32768, 2048]⟩
abbrev S2048x2048 : Shape := ⟨2, ![2048, 2048]⟩
abbrev S1024x2048 : Shape := ⟨2, ![1024, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x1024, .bf16⟩
  | .hbm, ⟨3, _⟩ => ⟨S32768x1024, .bf16⟩
  | .hbm, ⟨4, _⟩ => ⟨S32768x2048, .bf16⟩
  | .hbm, ⟨5, _⟩ => ⟨S2048x2048, .f32⟩
  | .hbm, ⟨6, _⟩ => ⟨S2048x2048, .f32⟩
  | .hbm, ⟨7, _⟩ => ⟨S1024x2048, .f32⟩
  | .hbm, ⟨8, _⟩ => ⟨S1024x2048, .f32⟩
  | .hbm, ⟨9, _⟩ => ⟨S32768x2048, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S32768x2048, .f32⟩
  | .hbm, ⟨16, _⟩ => ⟨S32768x2048, .f32⟩
  | .hbm, ⟨17, _⟩ => ⟨S32768x2048, .f32⟩
  | .hbm, ⟨18, _⟩ => ⟨S_, .f32⟩
  | .hbm, ⟨19, _⟩ => ⟨S32768x2048, .f32⟩
  | .hbm, ⟨20, _⟩ => ⟨S32768x2048, .f32⟩
  | .hbm, ⟨21, _⟩ => ⟨S_, .f32⟩
  | .hbm, ⟨22, _⟩ => ⟨S32768x2048, .f32⟩
  | .hbm, ⟨23, _⟩ => ⟨S32768x2048, .f32⟩
  | .hbm, ⟨24, _⟩ => ⟨S32768x2048, .f32⟩
  | .hbm, ⟨25, _⟩ => ⟨S32768x2048, .f32⟩
  | .hbm, ⟨26, _⟩ => ⟨S32768x2048, .f32⟩
  | .hbm, ⟨27, _⟩ => ⟨S32768x2048, .f32⟩
  | .hbm, ⟨28, _⟩ => ⟨S32768x2048, .f32⟩
  | .hbm, ⟨29, _⟩ => ⟨S_, .f32⟩
  | .hbm, ⟨30, _⟩ => ⟨S32768x2048, .f32⟩
  | .hbm, ⟨31, _⟩ => ⟨S32768x2048, .f32⟩
  | .hbm, ⟨32, _⟩ => ⟨S_, .f32⟩
  | .hbm, ⟨33, _⟩ => ⟨S32768x2048, .f32⟩
  | .hbm, ⟨34, _⟩ => ⟨S32768x2048, .f32⟩
  | .hbm, ⟨35, _⟩ => ⟨S32768x1024, .f32⟩
  | .hbm, ⟨36, _⟩ => ⟨S32768x2048, .f32⟩
  | .hbm, ⟨37, _⟩ => ⟨S32768x2048, .f32⟩
  | .hbm, ⟨38, _⟩ => ⟨S32768x2048, .f32⟩
  | .hbm, ⟨39, _⟩ => ⟨S32768x2048, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel4.lean ====
abbrev S4x16x8192x128 : Shape := ⟨4, ![4, 16, 8192, 128]⟩
abbrev S32768x1024 : Shape := ⟨2, ![32768, 1024]⟩
abbrev S1x2x512x128 : Shape := ⟨4, ![1, 2, 512, 128]⟩
abbrev S512x128 : Shape := ⟨2, ![512, 128]⟩
abbrev S2x512x128 : Shape := ⟨3, ![2, 512, 128]⟩
abbrev S512x512 : Shape := ⟨2, ![512, 512]⟩
abbrev S1x1x512x128 : Shape := ⟨4, ![1, 1, 512, 128]⟩
abbrev S1x512x128 : Shape := ⟨3, ![1, 512, 128]⟩
abbrev S512 : Shape := ⟨1, ![512]⟩
abbrev S512x1 : Shape := ⟨2, ![512, 1]⟩

abbrev nBuf : Space → Nat
  | .hbm => 4
  | .vmem => 11
  | .smem => 0
  | _ => 0

abbrev bufTy : (tb : Table) → Fin (tcTables nBuf tb) → BufTy
  | .hbm, ⟨0, _⟩ => ⟨S4x16x8192x128, .bf16⟩
  | .hbm, ⟨1, _⟩ => ⟨S4x16x8192x128, .bf16⟩
  | .hbm, ⟨2, _⟩ => ⟨S32768x1024, .bf16⟩
  | .hbm, ⟨3, _⟩ => ⟨S32768x1024, .bf16⟩
  | .local _ .vmem, ⟨0, _⟩ => ⟨S1x2x512x128, .bf16⟩
  | .local _ .vmem, ⟨1, _⟩ => ⟨S1x2x512x128, .bf16⟩
  | .local _ .vmem, ⟨2, _⟩ => ⟨S1x2x512x128, .bf16⟩
  | .local _ .vmem, ⟨3, _⟩ => ⟨S1x2x512x128, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S2x512x128, .f32⟩
  | .local _ .vmem, ⟨9, _⟩ => ⟨S2x512x128, .f32⟩
  | .local _ .vmem, ⟨10, _⟩ => ⟨S512x128, .f32⟩
  | _, _ => ⟨S4x16x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![4, 8, 16, 16], ![false, false, false, false]⟩

def k0_cond3 (i : grid0.Coords) : BitVec 1 :=
  let arg3 : BitVec 32 := BitVec.ofNat 32 (i 3).val
  let c15_i32 : BitVec 32 := 15#32
  let v10 : BitVec 1 := Scalar.cmpi .eq arg3 c15_i32
  let v11 : BitVec 32 := Scalar.extui v10
  let c0_i32_4 : BitVec 32 := 0#32
  let v12 : BitVec 1 := Scalar.cmpi .ne v11 c0_i32_4
  v12

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi c0_i32 arg1
  let c0_i32_0 : BitVec 32 := 0#32
  let c0_i32_1 : BitVec 32 := 0#32
  ![arg0.toNat, v0.toNat, arg2.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi c0_i32 arg1
  let c512_i32 : BitVec 32 := 512#32
  let v1 : BitVec 32 := Scalar.muli arg2 c512_i32
  let c512_i32_0 : BitVec 32 := 512#32
  let v2 : BitVec 32 := Scalar.addi v1 c512_i32_0
  let c1_i32 : BitVec 32 := 1#32
  let v3 : BitVec 32 := Scalar.subi v2 c1_i32
  let c512_i32_1 : BitVec 32 := 512#32
  let v4 : BitVec 32 := Scalar.divsi v3 c512_i32_1
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c0_i32_4 : BitVec 32 := 0#32
  let v10 : BitVec 1 := Scalar.cmpi .sgt c512_i32_1 c0_i32_4
  let v11 : BitVec 32 := Scalar.extui v10
  let c0_i32_5 : BitVec 32 := 0#32
  let v12 : BitVec 1 := Scalar.cmpi .slt c512_i32_1 c0_i32_5
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_6 : BitVec 32 := 0#32
  let v17 : BitVec 1 := Scalar.cmpi .ne v16 c0_i32_6
  let v18 : BitVec 1 := Scalar.andi v15 v17
  let c1_i32_7 : BitVec 32 := 1#32
  let v19 : BitVec 32 := Scalar.subi v4 c1_i32_7
  let v20 : BitVec 32 := Scalar.select v18 v19 v4
  let v21 : BitVec 32 := Scalar.minsi arg3 v20
  let c0_i32_8 : BitVec 32 := 0#32
  let c0_i32_9 : BitVec 32 := 0#32
  ![arg0.toNat, v0.toNat, v21.toNat, c0_i32_8.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let c512_i32 : BitVec 32 := 512#32
  let v1 : BitVec 32 := Scalar.muli arg2 c512_i32
  let c512_i32_0 : BitVec 32 := 512#32
  let v2 : BitVec 32 := Scalar.addi v1 c512_i32_0
  let c1_i32 : BitVec 32 := 1#32
  let v3 : BitVec 32 := Scalar.subi v2 c1_i32
  let c512_i32_1 : BitVec 32 := 512#32
  let v4 : BitVec 32 := Scalar.divsi v3 c512_i32_1
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let c1_i32_6 : BitVec 32 := 1#32
  let v19 : BitVec 32 := Scalar.subi v4 c1_i32_6
  let v20 : BitVec 32 := Scalar.select v18 v19 v4
  let v21 : BitVec 32 := Scalar.minsi arg3 v20
  let v22 : BitVec 32 := Scalar.addi v0 v21
  let c0_i32_7 : BitVec 32 := 0#32
  let v23 : BitVec 32 := Scalar.addi c0_i32_7 arg1
  let c0_i32_8 : BitVec 32 := 0#32
  ![v22.toNat, v23.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S1x2x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1x2x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== Kernel4Ideal.lean ====
variable {F : FTy → Type} [FloatOps F] [Named F]
def κ : String → Option EReal := fun
  | "mask" => some ⊥
  | _ => none
-- ==== Reference4Ideal.lean ====
abbrev S4x16x8192x128 : Shape := ⟨4, ![4, 16, 8192, 128]⟩
abbrev S32768x1024 : Shape := ⟨2, ![32768, 1024]⟩
abbrev S4x8192x16x64 : Shape := ⟨4, ![4, 8192, 16, 64]⟩
abbrev S8192 : Shape := ⟨1, ![8192]⟩
abbrev S4x16x8192x8192 : Shape := ⟨4, ![4, 16, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S4x16x8192 : Shape := ⟨3, ![4, 16, 8192]⟩
abbrev S4x16x8192x1 : Shape := ⟨4, ![4, 16, 8192, 1]⟩
abbrev S4x16x64x8192 : Shape := ⟨4, ![4, 16, 64, 8192]⟩

abbrev nBuf : Space → Nat
  | .hbm => 45
  | .vmem => 0
  | .smem => 0
  | _ => 0

abbrev bufTy : (tb : Table) → Fin (tcTables nBuf tb) → BufTy
  | .hbm, ⟨0, _⟩ => ⟨S4x16x8192x128, .bf16⟩
  | .hbm, ⟨1, _⟩ => ⟨S4x16x8192x128, .bf16⟩
  | .hbm, ⟨2, _⟩ => ⟨S32768x1024, .bf16⟩
  | .hbm, ⟨3, _⟩ => ⟨S4x16x8192x128, .f32⟩
  | .hbm, ⟨4, _⟩ => ⟨S4x16x8192x128, .f32⟩
  | .hbm, ⟨5, _⟩ => ⟨S32768x1024, .f32⟩
  | .hbm, ⟨6, _⟩ => ⟨S4x8192x16x64, .f32⟩
  | .hbm, ⟨7, _⟩ => ⟨S8192, .i32⟩
  | .hbm, ⟨8, _⟩ => ⟨S4x16x8192x8192, .f32⟩
  | .hbm, ⟨9, _⟩ => ⟨S_, .f32⟩
  | .hbm, ⟨10, _⟩ => ⟨S4x16x8192x8192, .f32⟩
  | .hbm, ⟨11, _⟩ => ⟨S4x16x8192x8192, .f32⟩
  | .hbm, ⟨12, _⟩ => ⟨S1x8192, .i32⟩
  | .hbm, ⟨13, _⟩ => ⟨S8192x1, .i32⟩
  | .hbm, ⟨14, _⟩ => ⟨S8192x8192, .i32⟩
  | .hbm, ⟨15, _⟩ => ⟨S8192x8192, .i32⟩
  | .hbm, ⟨16, _⟩ => ⟨S8192x8192, .i1⟩
  | .hbm, ⟨17, _⟩ => ⟨S_, .f32⟩
  | .hbm, ⟨18, _⟩ => ⟨S_, .f32⟩
  | .hbm, ⟨19, _⟩ => ⟨S4x16x8192x8192, .i1⟩
  | .hbm, ⟨20, _⟩ => ⟨S4x16x8192x8192, .f32⟩
  | .hbm, ⟨21, _⟩ => ⟨S4x16x8192x8192, .f32⟩
  | .hbm, ⟨22, _⟩ => ⟨S_, .f32⟩
  | .hbm, ⟨23, _⟩ => ⟨S4x16x8192, .f32⟩
  | .hbm, ⟨24, _⟩ => ⟨S4x16x8192x1, .f32⟩
  | .hbm, ⟨25, _⟩ => ⟨S4x16x8192x8192, .f32⟩
  | .hbm, ⟨26, _⟩ => ⟨S4x16x8192x8192, .f32⟩
  | .hbm, ⟨27, _⟩ => ⟨S4x16x8192x8192, .f32⟩
  | .hbm, ⟨28, _⟩ => ⟨S_, .f32⟩
  | .hbm, ⟨29, _⟩ => ⟨S_, .f32⟩
  | .hbm, ⟨30, _⟩ => ⟨S4x16x8192x8192, .i1⟩
  | .hbm, ⟨31, _⟩ => ⟨S4x16x8192x8192, .f32⟩
  | .hbm, ⟨32, _⟩ => ⟨S4x16x8192x8192, .f32⟩
  | .hbm, ⟨33, _⟩ => ⟨S_, .f32⟩
  | .hbm, ⟨34, _⟩ => ⟨S4x16x8192, .f32⟩
  | .hbm, ⟨35, _⟩ => ⟨S4x16x8192x1, .f32⟩
  | .hbm, ⟨36, _⟩ => ⟨S_, .f32⟩
  | .hbm, ⟨37, _⟩ => ⟨S4x16x8192x1, .f32⟩
  | .hbm, ⟨38, _⟩ => ⟨S4x16x8192x1, .f32⟩
  | .hbm, ⟨39, _⟩ => ⟨S4x16x8192x8192, .f32⟩
  | .hbm, ⟨40, _⟩ => ⟨S4x16x8192x8192, .f32⟩
  | .hbm, ⟨41, _⟩ => ⟨S4x16x64x8192, .f32⟩
  | .hbm, ⟨42, _⟩ => ⟨S4x8192x16x64, .f32⟩
  | .hbm, ⟨43, _⟩ => ⟨S32768x1024, .f32⟩
  | .hbm, ⟨44, _⟩ => ⟨S32768x1024, .bf16⟩
  | _, _ => ⟨S4x16x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]

def κ : String → Option EReal := fun
  | "mask" => some ⊥
  | _ => none
-- ==== Kernel5.lean ====
abbrev S32768x2048 : Shape := ⟨2, ![32768, 2048]⟩
abbrev S2048 : Shape := ⟨1, ![2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S1x2048, .f32⟩
  | .hbm, ⟨3, _⟩ => ⟨S32768x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .bf16⟩
  | .local _ .vmem, ⟨4, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S32768x2048 : Shape := ⟨2, ![32768, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S32768x2048, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S_, .f32⟩
  | .hbm, ⟨7, _⟩ => ⟨S32768x1, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S32768x1, .f32⟩
  | .hbm, ⟨13, _⟩ => ⟨S32768x2048, .f32⟩
  | .hbm, ⟨14, _⟩ => ⟨S32768x2048, .f32⟩
  | .hbm, ⟨15, _⟩ => ⟨S1x2048, .f32⟩
  | .hbm, ⟨16, _⟩ => ⟨S32768x2048, .f32⟩
  | .hbm, ⟨17, _⟩ => ⟨S32768x2048, .f32⟩
  | .hbm, ⟨18, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel6.lean ====
abbrev S1024x2048 : Shape := ⟨2, ![1024, 2048]⟩
abbrev S2048 : Shape := ⟨1, ![2048]⟩
abbrev S2048x1024 : Shape := ⟨2, ![2048, 1024]⟩
abbrev S1x2048 : Shape := ⟨2, ![1, 2048]⟩
abbrev S1024x1024 : Shape := ⟨2, ![1024, 1024]⟩
abbrev S256x2048 : Shape := ⟨2, ![256, 2048]⟩
abbrev S2048x512 : Shape := ⟨2, ![2048, 512]⟩
abbrev S256x512 : Shape := ⟨2, ![256, 512]⟩
abbrev S256 : Shape := ⟨1, ![256]⟩
abbrev S256x1 : Shape := ⟨2, ![256, 1]⟩

abbrev nBuf : Space → Nat
  | .hbm => 6
  | .vmem => 8
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S2048x1024, .f32⟩
  | .hbm, ⟨3, _⟩ => ⟨S2048x1024, .bf16⟩
  | .hbm, ⟨4, _⟩ => ⟨S1x2048, .f32⟩
  | .hbm, ⟨5, _⟩ => ⟨S1024x1024, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S256x512, .bf16⟩
  | .local _ .vmem, ⟨6, _⟩ => ⟨S256x512, .bf16⟩
  | .local _ .vmem, ⟨7, _⟩ => ⟨S256x2048, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S1024x2048 : Shape := ⟨2, ![1024, 2048]⟩
abbrev S2048 : Shape := ⟨1, ![2048]⟩
abbrev S2048x1024 : Shape := ⟨2, ![2048, 1024]⟩
abbrev S_ : Shape := ⟨0, ![]⟩
abbrev S1024 : Shape := ⟨1, ![1024]⟩
abbrev S1024x1 : Shape := ⟨2, ![1024, 1]⟩
abbrev S1x2048 : Shape := ⟨2, ![1, 2048]⟩
abbrev S1024x1024 : Shape := ⟨2, ![1024, 1024]⟩

abbrev nBuf : Space → Nat
  | .hbm => 21
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S2048x1024, .f32⟩
  | .hbm, ⟨3, _⟩ => ⟨S1024x2048, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x1, .f32⟩
  | .hbm, ⟨14, _⟩ => ⟨S1024x2048, .f32⟩
  | .hbm, ⟨15, _⟩ => ⟨S1024x2048, .f32⟩
  | .hbm, ⟨16, _⟩ => ⟨S1x2048, .f32⟩
  | .hbm, ⟨17, _⟩ => ⟨S1024x2048, .f32⟩
  | .hbm, ⟨18, _⟩ => ⟨S1024x2048, .f32⟩
  | .hbm, ⟨19, _⟩ => ⟨S1024x1024, .f32⟩
  | .hbm, ⟨20, _⟩ => ⟨S1024x1024, .bf16⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel7.lean ====
abbrev S32768x2048 : Shape := ⟨2, ![32768, 2048]⟩
abbrev S2048x1024 : Shape := ⟨2, ![2048, 1024]⟩
abbrev S32768x1024 : Shape := ⟨2, ![32768, 1024]⟩
abbrev S1024x2048 : Shape := ⟨2, ![1024, 2048]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S32768x2048, .bf16⟩
  | .hbm, ⟨1, _⟩ => ⟨S2048x1024, .f32⟩
  | .hbm, ⟨2, _⟩ => ⟨S2048x1024, .bf16⟩
  | .hbm, ⟨3, _⟩ => ⟨S32768x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S32768x2048 : Shape := ⟨2, ![32768, 2048]⟩
abbrev S2048x1024 : Shape := ⟨2, ![2048, 1024]⟩
abbrev S32768x1024 : Shape := ⟨2, ![32768, 1024]⟩

abbrev nBuf : Space → Nat
  | .hbm => 4
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x1024, .f32⟩
  | .hbm, ⟨2, _⟩ => ⟨S32768x2048, .f32⟩
  | .hbm, ⟨3, _⟩ => ⟨S32768x1024, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel8.lean ====
abbrev S32768x2048 : Shape := ⟨2, ![32768, 2048]⟩
abbrev S2048x8400 : Shape := ⟨2, ![2048, 8400]⟩
abbrev S2048x256 : Shape := ⟨2, ![2048, 256]⟩
abbrev S2048x4x64 : Shape := ⟨3, ![2048, 4, 64]⟩
abbrev S_ : Shape := ⟨0, ![]⟩
abbrev S2048x4x128 : Shape := ⟨3, ![2048, 4, 128]⟩
abbrev S2048x512 : Shape := ⟨2, ![2048, 512]⟩
abbrev S2048x1536 : Shape := ⟨2, ![2048, 1536]⟩
abbrev S4x12x8192x128 : Shape := ⟨4, ![4, 12, 8192, 128]⟩
abbrev S2048x2048 : Shape := ⟨2, ![2048, 2048]⟩
abbrev S1x4x2048x128 : Shape := ⟨4, ![1, 4, 2048, 128]⟩
abbrev S2048x128 : Shape := ⟨2, ![2048, 128]⟩
abbrev S1x1x2048x128 : Shape := ⟨4, ![1, 1, 2048, 128]⟩

abbrev nBuf : Space → Nat
  | .hbm => 23
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S2048x8400, .f32⟩
  | .hbm, ⟨2, _⟩ => ⟨S2048x256, .f32⟩
  | .hbm, ⟨3, _⟩ => ⟨S2048x256, .f32⟩
  | .hbm, ⟨4, _⟩ => ⟨S2048x256, .f32⟩
  | .hbm, ⟨5, _⟩ => ⟨S2048x4x64, .f32⟩
  | .hbm, ⟨6, _⟩ => ⟨S_, .i32⟩
  | .hbm, ⟨7, _⟩ => ⟨S_, .f32⟩
  | .hbm, ⟨8, _⟩ => ⟨S2048x4x128, .f32⟩
  | .hbm, ⟨9, _⟩ => ⟨S2048x512, .f32⟩
  | .hbm, ⟨10, _⟩ => ⟨S2048x4x64, .f32⟩
  | .hbm, ⟨11, _⟩ => ⟨S_, .i32⟩
  | .hbm, ⟨12, _⟩ => ⟨S_, .f32⟩
  | .hbm, ⟨13, _⟩ => ⟨S2048x4x128, .f32⟩
  | .hbm, ⟨14, _⟩ => ⟨S2048x512, .f32⟩
  | .hbm, ⟨15, _⟩ => ⟨S2048x4x64, .f32⟩
  | .hbm, ⟨16, _⟩ => ⟨S_, .i32⟩
  | .hbm, ⟨17, _⟩ => ⟨S_, .f32⟩
  | .hbm, ⟨18, _⟩ => ⟨S2048x4x128, .f32⟩
  | .hbm, ⟨19, _⟩ => ⟨S2048x512, .f32⟩
  | .hbm, ⟨20, _⟩ => ⟨S2048x1536, .f32⟩
  | .hbm, ⟨21, _⟩ => ⟨S2048x1536, .bf16⟩
  | .hbm, ⟨22, _⟩ => ⟨S4x12x8192x128, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S1x4x2048x128, .bf16⟩
  | .local _ .vmem, ⟨5, _⟩ => ⟨S1x4x2048x128, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_call1_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_call2_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg1.toNat, v26.toNat, c0_i32_10.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S32768x2048 : Shape := ⟨2, ![32768, 2048]⟩
abbrev S2048x8400 : Shape := ⟨2, ![2048, 8400]⟩
abbrev S32768x8400 : Shape := ⟨2, ![32768, 8400]⟩
abbrev S32768x256 : Shape := ⟨2, ![32768, 256]⟩
abbrev S4x8192x4x64 : Shape := ⟨4, ![4, 8192, 4, 64]⟩
abbrev S4x8192x12x64 : Shape := ⟨4, ![4, 8192, 12, 64]⟩
abbrev S4x12x8192x64 : Shape := ⟨4, ![4, 12, 8192, 64]⟩
abbrev S_ : Shape := ⟨0, ![]⟩
abbrev S4x12x8192x128 : Shape := ⟨4, ![4, 12, 8192, 128]⟩

abbrev nBuf : Space → Nat
  | .hbm => 16
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x8400, .f32⟩
  | .hbm, ⟨2, _⟩ => ⟨S32768x2048, .f32⟩
  | .hbm, ⟨3, _⟩ => ⟨S32768x8400, .f32⟩
  | .hbm, ⟨4, _⟩ => ⟨S32768x256, .f32⟩
  | .hbm, ⟨5, _⟩ => ⟨S4x8192x4x64, .f32⟩
  | .hbm, ⟨6, _⟩ => ⟨S32768x256, .f32⟩
  | .hbm, ⟨7, _⟩ => ⟨S4x8192x4x64, .f32⟩
  | .hbm, ⟨8, _⟩ => ⟨S32768x256, .f32⟩
  | .hbm, ⟨9, _⟩ => ⟨S4x8192x4x64, .f32⟩
  | .hbm, ⟨10, _⟩ => ⟨S4x8192x12x64, .f32⟩
  | .hbm, ⟨11, _⟩ => ⟨S4x12x8192x64, .f32⟩
  | .hbm, ⟨12, _⟩ => ⟨S_, .i32⟩
  | .hbm, ⟨13, _⟩ => ⟨S_, .f32⟩
  | .hbm, ⟨14, _⟩ => ⟨S4x12x8192x128, .f32⟩
  | .hbm, ⟨15, _⟩ => ⟨S4x12x8192x128, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_call0_v0 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel9.lean ====
abbrev S32768x1024 : Shape := ⟨2, ![32768, 1024]⟩
abbrev S256 : Shape := ⟨1, ![256]⟩
abbrev S256x1024 : Shape := ⟨2, ![256, 1024]⟩
abbrev S256x16x64 : Shape := ⟨3, ![256, 16, 64]⟩
abbrev S_ : Shape := ⟨0, ![]⟩
abbrev S256x16x128 : Shape := ⟨3, ![256, 16, 128]⟩
abbrev S256x2048 : Shape := ⟨2, ![256, 2048]⟩
abbrev S1x256 : Shape := ⟨2, ![1, 256]⟩
abbrev S4x16x8192x128 : Shape := ⟨4, ![4, 16, 8192, 128]⟩
abbrev S4096x256 : Shape := ⟨2, ![4096, 256]⟩
abbrev S256x512 : Shape := ⟨2, ![256, 512]⟩
abbrev S1x4x4096x128 : Shape := ⟨4, ![1, 4, 4096, 128]⟩
abbrev S4096 : Shape := ⟨1, ![4096]⟩
abbrev S4096x1 : Shape := ⟨2, ![4096, 1]⟩
abbrev S4096x512 : Shape := ⟨2, ![4096, 512]⟩
abbrev S4096x128 : Shape := ⟨2, ![4096, 128]⟩
abbrev S1x1x4096x128 : Shape := ⟨4, ![1, 1, 4096, 128]⟩

abbrev nBuf : Space → Nat
  | .hbm => 11
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S256, .f32⟩
  | .hbm, ⟨2, _⟩ => ⟨S256x1024, .f32⟩
  | .hbm, ⟨3, _⟩ => ⟨S256x16x64, .f32⟩
  | .hbm, ⟨4, _⟩ => ⟨S_, .i32⟩
  | .hbm, ⟨5, _⟩ => ⟨S_, .f32⟩
  | .hbm, ⟨6, _⟩ => ⟨S256x16x128, .f32⟩
  | .hbm, ⟨7, _⟩ => ⟨S256x2048, .f32⟩
  | .hbm, ⟨8, _⟩ => ⟨S256x2048, .bf16⟩
  | .hbm, ⟨9, _⟩ => ⟨S1x256, .f32⟩
  | .hbm, ⟨10, _⟩ => ⟨S4x16x8192x128, .bf16⟩
  | .local _ .vmem, ⟨0, _⟩ => ⟨S4096x256, .f32⟩
  | .local _ .vmem, ⟨1, _⟩ => ⟨S4096x256, .f32⟩
  | .local _ .vmem, ⟨2, _⟩ => ⟨S1x256, .f32⟩
  | .local _ .vmem, ⟨3, _⟩ => ⟨S256x512, .bf16⟩
  | .local _ .vmem, ⟨4, _⟩ => ⟨S256x512, .bf16⟩
  | .local _ .vmem, ⟨5, _⟩ => ⟨S1x4x4096x128, .bf16⟩
  | .local _ .vmem, ⟨6, _⟩ => ⟨S1x4x4096x128, .bf16⟩
  | .local _ .vmem, ⟨7, _⟩ => ⟨S4096x256, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg1.toNat, v26.toNat, c0_i32_10.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x4x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S32768x1024 : Shape := ⟨2, ![32768, 1024]⟩
abbrev S256 : Shape := ⟨1, ![256]⟩
abbrev S256x1024 : Shape := ⟨2, ![256, 1024]⟩
abbrev S32768x256 : Shape := ⟨2, ![32768, 256]⟩
abbrev S_ : Shape := ⟨0, ![]⟩
abbrev S32768 : Shape := ⟨1, ![32768]⟩
abbrev S32768x1 : Shape := ⟨2, ![32768, 1]⟩
abbrev S1x256 : Shape := ⟨2, ![1, 256]⟩
abbrev S4x8192x16x64 : Shape := ⟨4, ![4, 8192, 16, 64]⟩
abbrev S4x16x8192x64 : Shape := ⟨4, ![4, 16, 8192, 64]⟩
abbrev S4x16x8192x128 : Shape := ⟨4, ![4, 16, 8192, 128]⟩

abbrev nBuf : Space → Nat
  | .hbm => 27
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S256, .f32⟩
  | .hbm, ⟨2, _⟩ => ⟨S256x1024, .f32⟩
  | .hbm, ⟨3, _⟩ => ⟨S32768x256, .f32⟩
  | .hbm, ⟨4, _⟩ => ⟨S32768x256, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x256, .f32⟩
  | .hbm, ⟨16, _⟩ => ⟨S32768x256, .f32⟩
  | .hbm, ⟨17, _⟩ => ⟨S1x256, .f32⟩
  | .hbm, ⟨18, _⟩ => ⟨S32768x256, .f32⟩
  | .hbm, ⟨19, _⟩ => ⟨S32768x256, .f32⟩
  | .hbm, ⟨20, _⟩ => ⟨S32768x1024, .f32⟩
  | .hbm, ⟨21, _⟩ => ⟨S4x8192x16x64, .f32⟩
  | .hbm, ⟨22, _⟩ => ⟨S4x16x8192x64, .f32⟩
  | .hbm, ⟨23, _⟩ => ⟨S_, .i32⟩
  | .hbm, ⟨24, _⟩ => ⟨S_, .f32⟩
  | .hbm, ⟨25, _⟩ => ⟨S4x16x8192x128, .f32⟩
  | .hbm, ⟨26, _⟩ => ⟨S4x16x8192x128, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel10.lean ====
abbrev S4x4x512x2048 : Shape := ⟨4, ![4, 4, 512, 2048]⟩
abbrev S32x128 : Shape := ⟨2, ![32, 128]⟩
abbrev S32x128x128 : Shape := ⟨3, ![32, 128, 128]⟩
abbrev S128x128 : Shape := ⟨2, ![128, 128]⟩
abbrev S16x128 : Shape := ⟨2, ![16, 128]⟩
abbrev S1x2048 : Shape := ⟨2, ![1, 2048]⟩
abbrev S16x128x128 : Shape := ⟨3, ![16, 128, 128]⟩
abbrev S2048x128 : Shape := ⟨2, ![2048, 128]⟩
abbrev S4x4x512x128 : Shape := ⟨4, ![4, 4, 512, 128]⟩
abbrev S1x1x512x2048 : Shape := ⟨4, ![1, 1, 512, 2048]⟩
abbrev S1x1x512x128 : Shape := ⟨4, ![1, 1, 512, 128]⟩
abbrev S512x2048 : Shape := ⟨2, ![512, 2048]⟩
abbrev S512x128 : Shape := ⟨2, ![512, 128]⟩

abbrev nBuf : Space → Nat
  | .hbm => 16
  | .vmem => 9
  | .smem => 0
  | _ => 0

abbrev bufTy : (tb : Table) → Fin (tcTables nBuf tb) → BufTy
  | .hbm, ⟨0, _⟩ => ⟨S4x4x512x2048, .bf16⟩
  | .hbm, ⟨1, _⟩ => ⟨S32x128, .f32⟩
  | .hbm, ⟨2, _⟩ => ⟨S32x128x128, .f32⟩
  | .hbm, ⟨3, _⟩ => ⟨S128x128, .f32⟩
  | .hbm, ⟨4, _⟩ => ⟨S16x128, .f32⟩
  | .hbm, ⟨5, _⟩ => ⟨S1x2048, .f32⟩
  | .hbm, ⟨6, _⟩ => ⟨S16x128, .f32⟩
  | .hbm, ⟨7, _⟩ => ⟨S1x2048, .f32⟩
  | .hbm, ⟨8, _⟩ => ⟨S16x128x128, .f32⟩
  | .hbm, ⟨9, _⟩ => ⟨S2048x128, .f32⟩
  | .hbm, ⟨10, _⟩ => ⟨S2048x128, .bf16⟩
  | .hbm, ⟨11, _⟩ => ⟨S16x128x128, .f32⟩
  | .hbm, ⟨12, _⟩ => ⟨S2048x128, .f32⟩
  | .hbm, ⟨13, _⟩ => ⟨S2048x128, .bf16⟩
  | .hbm, ⟨14, _⟩ => ⟨S128x128, .bf16⟩
  | .hbm, ⟨15, _⟩ => ⟨S4x4x512x128, .bf16⟩
  | .local _ .vmem, ⟨0, _⟩ => ⟨S1x1x512x2048, .bf16⟩
  | .local _ .vmem, ⟨1, _⟩ => ⟨S1x1x512x2048, .bf16⟩
  | .local _ .vmem, ⟨2, _⟩ => ⟨S1x2048, .f32⟩
  | .local _ .vmem, ⟨3, _⟩ => ⟨S1x2048, .f32⟩
  | .local _ .vmem, ⟨4, _⟩ => ⟨S2048x128, .bf16⟩
  | .local _ .vmem, ⟨5, _⟩ => ⟨S2048x128, .bf16⟩
  | .local _ .vmem, ⟨6, _⟩ => ⟨S128x128, .bf16⟩
  | .local _ .vmem, ⟨7, _⟩ => ⟨S1x1x512x128, .bf16⟩
  | .local _ .vmem, ⟨8, _⟩ => ⟨S1x1x512x128, .bf16⟩
  | _, _ => ⟨S4x4x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![4, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![arg0.toNat, v0.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference10Ideal.lean ====
abbrev S4x4x512x2048 : Shape := ⟨4, ![4, 4, 512, 2048]⟩
abbrev S32x128 : Shape := ⟨2, ![32, 128]⟩
abbrev S32x128x128 : Shape := ⟨3, ![32, 128, 128]⟩
abbrev S128x128 : Shape := ⟨2, ![128, 128]⟩
abbrev S4x4x511x2048 : Shape := ⟨4, ![4, 4, 511, 2048]⟩
abbrev S4x4x1x2048 : Shape := ⟨4, ![4, 4, 1, 2048]⟩
abbrev S4x4x512x4096 : Shape := ⟨4, ![4, 4, 512, 4096]⟩
abbrev S4096 : Shape := ⟨1, ![4096]⟩
abbrev S1x1x1x4096 : Shape := ⟨4, ![1, 1, 1, 4096]⟩
abbrev S4096x128 : Shape := ⟨2, ![4096, 128]⟩
abbrev S4x4x512x128 : Shape := ⟨4, ![4, 4, 512, 128]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S4x4x512x2048, .bf16⟩
  | .hbm, ⟨1, _⟩ => ⟨S32x128, .f32⟩
  | .hbm, ⟨2, _⟩ => ⟨S32x128x128, .f32⟩
  | .hbm, ⟨3, _⟩ => ⟨S128x128, .f32⟩
  | .hbm, ⟨4, _⟩ => ⟨S4x4x512x2048, .f32⟩
  | .hbm, ⟨5, _⟩ => ⟨S4x4x511x2048, .f32⟩
  | .hbm, ⟨6, _⟩ => ⟨S4x4x1x2048, .f32⟩
  | .hbm, ⟨7, _⟩ => ⟨S4x4x512x2048, .f32⟩
  | .hbm, ⟨8, _⟩ => ⟨S4x4x512x4096, .f32⟩
  | .hbm, ⟨9, _⟩ => ⟨S4096, .f32⟩
  | .hbm, ⟨10, _⟩ => ⟨S1x1x1x4096, .f32⟩
  | .hbm, ⟨11, _⟩ => ⟨S4x4x512x4096, .f32⟩
  | .hbm, ⟨12, _⟩ => ⟨S4x4x512x4096, .f32⟩
  | .hbm, ⟨13, _⟩ => ⟨S4096x128, .f32⟩
  | .hbm, ⟨14, _⟩ => ⟨S4x4x512x128, .f32⟩
  | .hbm, ⟨15, _⟩ => ⟨S4x4x512x128, .f32⟩
  | .hbm, ⟨16, _⟩ => ⟨S4x4x512x128, .f32⟩
  | .hbm, ⟨17, _⟩ => ⟨S_, .f32⟩
  | .hbm, ⟨18, _⟩ => ⟨S4x4x512x128, .f32⟩
  | .hbm, ⟨19, _⟩ => ⟨S4x4x512x128, .f32⟩
  | .hbm, ⟨20, _⟩ => ⟨S4x4x512x128, .f32⟩
  | .hbm, ⟨21, _⟩ => ⟨S_, .f32⟩
  | .hbm, ⟨22, _⟩ => ⟨S4x4x512x128, .f32⟩
  | .hbm, ⟨23, _⟩ => ⟨S4x4x512x128, .f32⟩
  | .hbm, ⟨24, _⟩ => ⟨S4x4x512x128, .f32⟩
  | .hbm, ⟨25, _⟩ => ⟨S_, .f32⟩
  | .hbm, ⟨26, _⟩ => ⟨S4x4x512x128, .f32⟩
  | .hbm, ⟨27, _⟩ => ⟨S4x4x512x128, .f32⟩
  | .hbm, ⟨28, _⟩ => ⟨S_, .f32⟩
  | .hbm, ⟨29, _⟩ => ⟨S4x4x512x128, .f32⟩
  | .hbm, ⟨30, _⟩ => ⟨S4x4x512x128, .f32⟩
  | .hbm, ⟨31, _⟩ => ⟨S4x4x512x128, .f32⟩
  | .hbm, ⟨32, _⟩ => ⟨S4x4x512x128, .f32⟩
  | .hbm, ⟨33, _⟩ => ⟨S4x4x512x128, .bf16⟩
  | _, _ => ⟨S4x4x512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Kernel11.lean ====
abbrev S32768x896 : Shape := ⟨2, ![32768, 896]⟩
abbrev S256 : Shape := ⟨1, ![256]⟩
abbrev S256x1024 : Shape := ⟨2, ![256, 1024]⟩
abbrev S32768x32 : Shape := ⟨2, ![32768, 32]⟩
abbrev S_ : Shape := ⟨0, ![]⟩
abbrev S32768x128 : Shape := ⟨2, ![32768, 128]⟩
abbrev S256x16x64 : Shape := ⟨3, ![256, 16, 64]⟩
abbrev S256x16x128 : Shape := ⟨3, ![256, 16, 128]⟩
abbrev S256x2048 : Shape := ⟨2, ![256, 2048]⟩
abbrev S1x256 : Shape := ⟨2, ![1, 256]⟩
abbrev S4x16x8192x128 : Shape := ⟨4, ![4, 16, 8192, 128]⟩
abbrev S512x256 : Shape := ⟨2, ![512, 256]⟩
abbrev S256x512 : Shape := ⟨2, ![256, 512]⟩
abbrev S512x128 : Shape := ⟨2, ![512, 128]⟩
abbrev S1x4x512x128 : Shape := ⟨4, ![1, 4, 512, 128]⟩
abbrev S512 : Shape := ⟨1, ![512]⟩
abbrev S512x1 : Shape := ⟨2, ![512, 1]⟩
abbrev S512x512 : Shape := ⟨2, ![512, 512]⟩
abbrev S1x1x512x128 : Shape := ⟨4, ![1, 1, 512, 128]⟩

abbrev nBuf : Space → Nat
  | .hbm => 15
  | .vmem => 9
  | .smem => 0
  | _ => 0

abbrev bufTy : (tb : Table) → Fin (tcTables nBuf tb) → BufTy
  | .hbm, ⟨0, _⟩ => ⟨S32768x896, .f32⟩
  | .hbm, ⟨1, _⟩ => ⟨S256, .f32⟩
  | .hbm, ⟨2, _⟩ => ⟨S256x1024, .f32⟩
  | .hbm, ⟨3, _⟩ => ⟨S32768x32, .bf16⟩
  | .hbm, ⟨4, _⟩ => ⟨S_, .i32⟩
  | .hbm, ⟨5, _⟩ => ⟨S_, .bf16⟩
  | .hbm, ⟨6, _⟩ => ⟨S32768x128, .bf16⟩
  | .hbm, ⟨7, _⟩ => ⟨S256x16x64, .f32⟩
  | .hbm, ⟨8, _⟩ => ⟨S_, .i32⟩
  | .hbm, ⟨9, _⟩ => ⟨S_, .f32⟩
  | .hbm, ⟨10, _⟩ => ⟨S256x16x128, .f32⟩
  | .hbm, ⟨11, _⟩ => ⟨S256x2048, .f32⟩
  | .hbm, ⟨12, _⟩ => ⟨S256x2048, .bf16⟩
  | .hbm, ⟨13, _⟩ => ⟨S1x256, .f32⟩
  | .hbm, ⟨14, _⟩ => ⟨S4x16x8192x128, .bf16⟩
  | .local _ .vmem, ⟨0, _⟩ => ⟨S512x256, .f32⟩
  | .local _ .vmem, ⟨1, _⟩ => ⟨S512x256, .f32⟩
  | .local _ .vmem, ⟨2, _⟩ => ⟨S1x256, .f32⟩
  | .local _ .vmem, ⟨3, _⟩ => ⟨S256x512, .bf16⟩
  | .local _ .vmem, ⟨4, _⟩ => ⟨S256x512, .bf16⟩
  | .local _ .vmem, ⟨5, _⟩ => ⟨S512x128, .bf16⟩
  | .local _ .vmem, ⟨6, _⟩ => ⟨S512x128, .bf16⟩
  | .local _ .vmem, ⟨7, _⟩ => ⟨S1x4x512x128, .bf16⟩
  | .local _ .vmem, ⟨8, _⟩ => ⟨S1x4x512x128, .bf16⟩
  | _, _ => ⟨S32768x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call1_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![64, 4], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg1.toNat, v26.toNat, c0_i32_10.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference11Ideal.lean ====
abbrev S32768x896 : Shape := ⟨2, ![32768, 896]⟩
abbrev S256 : Shape := ⟨1, ![256]⟩
abbrev S256x1024 : Shape := ⟨2, ![256, 1024]⟩
abbrev S32768x32 : Shape := ⟨2, ![32768, 32]⟩
abbrev S32768x256 : Shape := ⟨2, ![32768, 256]⟩
abbrev S_ : Shape := ⟨0, ![]⟩
abbrev S32768 : Shape := ⟨1, ![32768]⟩
abbrev S32768x1 : Shape := ⟨2, ![32768, 1]⟩
abbrev S1x256 : Shape := ⟨2, ![1, 256]⟩
abbrev S32768x1024 : Shape := ⟨2, ![32768, 1024]⟩
abbrev S4x8192x16x64 : Shape := ⟨4, ![4, 8192, 16, 64]⟩
abbrev S4x8192x1x32 : Shape := ⟨4, ![4, 8192, 1, 32]⟩
abbrev S4x8192x16x32 : Shape := ⟨4, ![4, 8192, 16, 32]⟩
abbrev S4x8192x16x96 : Shape := ⟨4, ![4, 8192, 16, 96]⟩
abbrev S4x16x8192x96 : Shape := ⟨4, ![4, 16, 8192, 96]⟩
abbrev S4x16x8192x128 : Shape := ⟨4, ![4, 16, 8192, 128]⟩

abbrev nBuf : Space → Nat
  | .hbm => 32
  | .vmem => 0
  | .smem => 0
  | _ => 0

abbrev bufTy : (tb : Table) → Fin (tcTables nBuf tb) → BufTy
  | .hbm, ⟨0, _⟩ => ⟨S32768x896, .f32⟩
  | .hbm, ⟨1, _⟩ => ⟨S256, .f32⟩
  | .hbm, ⟨2, _⟩ => ⟨S256x1024, .f32⟩
  | .hbm, ⟨3, _⟩ => ⟨S32768x32, .bf16⟩
  | .hbm, ⟨4, _⟩ => ⟨S32768x256, .f32⟩
  | .hbm, ⟨5, _⟩ => ⟨S32768x256, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x256, .f32⟩
  | .hbm, ⟨17, _⟩ => ⟨S32768x256, .f32⟩
  | .hbm, ⟨18, _⟩ => ⟨S1x256, .f32⟩
  | .hbm, ⟨19, _⟩ => ⟨S32768x256, .f32⟩
  | .hbm, ⟨20, _⟩ => ⟨S32768x256, .f32⟩
  | .hbm, ⟨21, _⟩ => ⟨S32768x1024, .f32⟩
  | .hbm, ⟨22, _⟩ => ⟨S4x8192x16x64, .f32⟩
  | .hbm, ⟨23, _⟩ => ⟨S32768x32, .f32⟩
  | .hbm, ⟨24, _⟩ => ⟨S4x8192x1x32, .f32⟩
  | .hbm, ⟨25, _⟩ => ⟨S4x8192x16x32, .f32⟩
  | .hbm, ⟨26, _⟩ => ⟨S4x8192x16x96, .f32⟩
  | .hbm, ⟨27, _⟩ => ⟨S4x16x8192x96, .f32⟩
  | .hbm, ⟨28, _⟩ => ⟨S_, .i32⟩
  | .hbm, ⟨29, _⟩ => ⟨S_, .f32⟩
  | .hbm, ⟨30, _⟩ => ⟨S4x16x8192x128, .f32⟩
  | .hbm, ⟨31, _⟩ => ⟨S4x16x8192x128, .bf16⟩
  | _, _ => ⟨S32768x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_call0_v0 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Proof.Norm.lean ====
module

public import proofs.«01_k».proof.Proof.Gen.Kernel5Ideal.Value
public import proofs.«01_k».proof.Proof.Gen.Reference5Ideal.Read
public import Idealize.ShloMosaic.Lib.Pointwise
public import Idealize.ShloMosaic.Lib.Pipeline.ValueKit
public import Idealize.ShloMosaic.Lib.Pipeline.ReadBack

/-! The norm of the rows before the input projection: the array the kernel leaves is the reference's result. -/

@[expose] public section

noncomputable section

namespace Cert.Kernel5Ideal.RefValue

open Cert.Kernel5Ideal Cert.Kernel5Ideal.Gen Idealize.ShloMosaic Idealize.SL.Sem
open Cert.Reference5Ideal.Read

variable (m : (ℓ : Loc nD τ sig) → Buf (Elt Ideal) ℓ)

/-- The reference's result over the arrays that the kernel was launched with. -/
def refOut (c : Dev nD) : (⟨S32768x2048, .bf16⟩ : BufTy).Contents (Elt Ideal) :=
  val_main_v13 (F := Ideal) (m ((c.tc : Thread nD τ).loc main_arg0)) (m ((c.tc : Thread nD τ).loc main_arg1))

/-- Where the blocks of each window stand. -/
theorem idx : ∀ t : Fin cfg0.N,
    win0_0.index t = ![t.val, 0] ∧ win0_1.index t = ![0, 0] ∧ win0_2.index t = ![t.val, 0] := by
  decide +kernel

theorem final (c : Dev nD) : (dats m 0 c).arrAt 2 cfg0.N = refOut m c := by
  refine (dats m 0 c).arrAt_eq_of_covers 2 _ (by decide +kernel) fun t hf y => ?_
  blk_simp
  rw [after0_2]
  unfold out0_2
  frame_out
  unfold refOut
  pointwise [k0_pay1, val_main_v0, val_main_v1, val_main_v2, val_main_v3, val_main_v4, val_main_v5, val_main_v6, val_main_v7, val_main_v8, val_main_v9, val_main_v10, val_main_v11, val_main_v12, val_main_v13, val_main_cst, val_main_cst_0, val_main_cst_1]
  blk_point [iblk, V, idx t]

end Cert.Kernel5Ideal.RefValue

end
-- ==== Proof.Memory.lean ====
module

public import proofs.«01_k».proof.Proof.Gen.Kernel6Ideal.Value
public import proofs.«01_k».proof.Proof.Gen.Reference6Ideal.Read
public import Idealize.ShloMosaic.Lib.Pointwise
public import Idealize.ShloMosaic.Lib.Pipeline.ValueKit
public import Idealize.ShloMosaic.Lib.Pipeline.ReadBack

/-! The memory's keys and values for the cross-attention: the array the kernel leaves is the reference's result. -/

@[expose] public section

noncomputable section

namespace Cert.Kernel6Ideal.RefValue

open Cert.Kernel6Ideal Cert.Kernel6Ideal.Gen Idealize.ShloMosaic Idealize.SL.Sem
open Cert.Reference6Ideal.Read

variable (m : (ℓ : Loc nD τ sig) → Buf (Elt Ideal) ℓ)

/-- The reference's result over the arrays that the kernel was launched with. -/
def refOut (c : Dev nD) : (⟨S1024x1024, .bf16⟩ : BufTy).Contents (Elt Ideal) :=
  val_main_v14 (F := Ideal) (m ((c.tc : Thread nD τ).loc main_arg0)) (m ((c.tc : Thread nD τ).loc main_arg1)) (m ((c.tc : Thread nD τ).loc main_arg2))

/-- Where the blocks of each window stand: row tile `t / 2`, column tile `t % 2`. -/
theorem idx : ∀ t : Fin cfg0.N,
    win0_0.index t = ![t.val / 2, 0] ∧ win0_1.index t = ![0, 0] ∧ win0_2.index t = ![0, t.val % 2]
      ∧ win0_3.index t = ![t.val / 2, t.val % 2] := by
  decide +kernel

/-- The normed rows, which the first point of a row tile stores. -/
def normed (c : Dev nD) (t : Fin cfg0.N) : FVec Ideal S256x2048 .bf16 := k0_pay1 (F := Ideal) (iblk m c 0 t) (iblk m c 1 t)

/-- The two points of a row tile see the same rows. -/
theorem normed_prev (c : Dev nD) (t s : Fin cfg0.N) (h : s.val / 2 = t.val / 2) : normed m c s = normed m c t := by
  have e0 : iblk m c 0 s = iblk m c 0 t := by
    funext y
    blk_ext [iblk, V, idx t, idx s, h]
  have e1 : iblk m c 1 s = iblk m c 1 t := by
    funext y
    blk_ext [iblk, V, idx t, idx s]
  rw [normed, normed, e0, e1]

theorem out_at (c : Dev nD) (t : Fin cfg0.N) :
    (outsAt0 m c t.val t.isLt).1 = k0_pay2 (F := Ideal) (normed m c t) (iblk m c 2 t) := by
  by_cases h0 : t.val % 2 = 0
  · rw [outsAt0_A m c t h0]
    frame_open
    simp (disch := decide) only [↓ View.readCov_skip, ↓ View.readCov_cons_toLoadRect, ↓ View.readCov_fill]
    frame_out
    rfl
  · have hs : t.val - 1 < cfg0.N := by have := t.isLt; omega
    have e : (outsAt0 m c (t.val - 1) hs).2 = normed m c ⟨t.val - 1, hs⟩ := by
      rw [outsAt0_A m c ⟨t.val - 1, hs⟩ (by show (t.val - 1) % 2 = 0; omega)]
      frame_out
      rfl
    rw [normed_prev m c t ⟨t.val - 1, hs⟩ (by show (t.val - 1) / 2 = t.val / 2; omega)] at e
    rw [← e, outsAt0_B m c t h0]
    frame_out
    try simp only [read_unread_whole]

theorem final (c : Dev nD) : (dats m 0 c).arrAt 3 cfg0.N = refOut m c := by
  refine (dats m 0 c).arrAt_eq_of_covers 3 _ (by decide +kernel) fun t hf y => ?_
  blk_simp
  rw [after0_3, out_at]
  unfold refOut normed
  pointwise [k0_pay1, k0_pay2, val_main_v0, val_main_v1, val_main_v2, val_main_v3, val_main_v4, val_main_v5, val_main_v6, val_main_v7, val_main_v8, val_main_v9, val_main_v10, val_main_v11, val_main_v12, val_main_v13, val_main_v14, val_main_cst, val_main_cst_0, val_main_cst_1]
  blk_point [iblk, V, idx t]

end Cert.Kernel6Ideal.RefValue

end
-- ==== Proof.Misc.lean ====
module

public import proofs.«01_k».proof.Proof.Gen.Kernel7Ideal.Value
public import proofs.«01_k».proof.Proof.Gen.Reference7Ideal.Read
public import Idealize.ShloMosaic.Lib.Pointwise
public import Idealize.ShloMosaic.Lib.Pipeline.ValueKit
public import Idealize.ShloMosaic.Lib.Pipeline.ReadBack

/-! The input projection's columns of the latents, the branch gates and the rotary key: the array the kernel leaves is the
    reference's result. -/

@[expose] public section

noncomputable section

namespace Cert.Kernel7Ideal.RefValue

open Cert.Kernel7Ideal Cert.Kernel7Ideal.Gen Idealize.ShloMosaic Idealize.SL.Sem
open Cert.Reference7Ideal.Read

variable (m : (ℓ : Loc nD τ sig) → Buf (Elt Ideal) ℓ)

/-- The reference's result over the arrays that the kernel was launched with. -/
def refOut (c : Dev nD) : (⟨S32768x1024, .f32⟩ : BufTy).Contents (Elt Ideal) :=
  val_main_v1 (F := Ideal) (m ((c.tc : Thread nD τ).loc main_arg0)) (m ((c.tc : Thread nD τ).loc main_arg1))

/-- Where the blocks of each window stand. -/
theorem idx : ∀ t : Fin cfg0.N,
    win0_0.index t = ![t.val, 0] ∧ win0_1.index t = ![0, 0] ∧ win0_2.index t = ![t.val, 0] := by
  decide +kernel

theorem final (c : Dev nD) : (dats m 0 c).arrAt 2 cfg0.N = refOut m c := by
  refine (dats m 0 c).arrAt_eq_of_covers 2 _ (by decide +kernel) fun t hf y => ?_
  blk_simp
  rw [after0_2]
  unfold out0_2
  frame_out
  unfold refOut
  pointwise [k0_pay1, val_main_v0, val_main_v1]
  blk_point [iblk, V, idx t]

end Cert.Kernel7Ideal.RefValue

end
-- ==== Proof.Keys.lean ====
module

public import proofs.«01_k».proof.Proof.Gen.Kernel11Ideal.Value
public import proofs.«01_k».proof.Proof.Gen.Reference11Ideal.Read
public import Idealize.ShloMosaic.Lib.Pointwise
public import Idealize.ShloMosaic.Lib.Pipeline.ValueKit
public import Idealize.ShloMosaic.Lib.Pipeline.ValueKit.Tiles
public import Idealize.ShloMosaic.Lib.Pipeline.ReadBack
public import Idealize.ShloMosaic.Lib.StableHlo.ReadAt

/-! The second mixer's keys from its latents and its rotated key: the array the kernel leaves is the reference's result. -/

@[expose] public section

noncomputable section

namespace Cert.Kernel11Ideal.RefValue

open Cert.Kernel11Ideal Cert.Kernel11Ideal.Gen Idealize.ShloMosaic Idealize.SL.Sem
open Cert.Reference11Ideal.Read

variable (m : (ℓ : Loc nD τ sig) → Buf (Elt Ideal) ℓ)

/-- The reference's result over the arrays that the kernel was launched with. -/
def refOut (c : Dev nD) : (⟨S4x16x8192x128, .bf16⟩ : BufTy).Contents (Elt Ideal) :=
  val_main_v22 (F := Ideal) (m ((c.tc : Thread nD τ).loc main_arg0)) (m ((c.tc : Thread nD τ).loc main_arg1))
    (m ((c.tc : Thread nD τ).loc main_arg2)) (m ((c.tc : Thread nD τ).loc main_arg3))

/-- Where the blocks of each window stand: row tile `t / 4`, column tile `t % 4`. -/
theorem idx : ∀ t : Fin cfg0.N,
    win0_0.index t = ![t.val / 4, 2] ∧ win0_1.index t = ![0, 0] ∧ win0_2.index t = ![0, t.val % 4]
      ∧ win0_3.index t = ![t.val / 4, 0] ∧ win0_4.index t = ![t.val / 4 / 16, t.val % 4, t.val / 4 % 16, 0] := by
  decide +kernel

/-- The four heads of a column tile, each stored apart, are the tile. -/
def tile (x0 : FVec Ideal S512x256 .f32) (x1 : FVec Ideal S1x256 .f32) (x2 : FVec Ideal S256x512 .bf16)
    (x3 : FVec Ideal S512x128 .bf16) : FVec Ideal S1x4x512x128 .bf16 :=
  fun y => k0_pay4 (F := Ideal) x0 x1 x2 (ix2 (⟨(y 2).val, (y 2).isLt⟩ : Fin 512)
    (⟨(y 1).val * 128 + (y 3).val, by have h1 : (y 1).val < 4 := (y 1).isLt; have h3 : (y 3).val < 128 := (y 3).isLt; omega⟩ : Fin 512))
    + x3 (ix2 (⟨(y 2).val, (y 2).isLt⟩ : Fin 512) (⟨(y 3).val, (y 3).isLt⟩ : Fin 128))

/-- A row of latents, each by the row's mean square and the gain. -/
def scaled (x0 : FVec Ideal S512x256 .f32) (x1 : FVec Ideal S1x256 .f32) (r : Fin 512) (k : Fin 256) : EReal :=
  (x0 (ix2 r k) : EReal) * Ideal.rsqrt (Ideal.div (∑ q : Fin 256, (x0 (ix2 r q) : EReal) * x0 (ix2 r q)) (Ideal.ofBits .f32 0x43800000#32)
    + Ideal.ofBits .f32 0x358637BD#32) * x1 (ix2 0 k)

/-- What the body leaves at a point is the tile. -/
theorem out_at (c : Dev nD) (t : Fin cfg0.N) :
    outsAt0 m c t = tile (X0_0 m c t) (iblk m c 1 t) (iblk m c 2 t) (iblk m c 3 t) := by
  unfold outsAt0 out0_A_4
  frame_out
  funext y
  unfold tile
  canon_tiles x h
  all_goals
    pointwise [k0_pay1, k0_pay2, k0_pay3, k0_pay4, k0_pay5, k0_pay6]
    refine congrArg₂ (fun a b : EReal => a + b) (Finset.sum_congr rfl fun k _ => ?_) ?_
    · refine congrArg₂ (fun a b : EReal => a * b) ?_ ?_
      · have e2 : (⟨(x 2).val, (by have := (x 2).isLt; exact this)⟩ : Fin 512) = ⟨(y 2).val, (y 2).isLt⟩ := Fin.ext h2.symm
        first
          | exact congrArg (fun r : Fin 512 => scaled (X0_0 m c t) (iblk m c 1 t) r k) e2
          | exact congrArg (fun r : Fin 512 => scaled (X0_0 m c t) (iblk m c 1 t) r k) (Fin.ext h2.symm)
      · refine congrArg _ (congrArg₂ ix2 rfl (Fin.ext ?_))
        dsimp only
        omega
    · exact congrArg _ (congrArg₂ ix2 (Fin.ext h2.symm) (Fin.ext h3.symm))

/-- The fill of the padded lanes is zero. -/
theorem zero_word {e : FTy} : FloatOps.sitofp (F := Ideal) e 0#32 = (0 : EReal) := by
  show (((0#32 : BitVec 32).toInt : ℝ) : EReal) = 0
  simp

/-- The rotated key's array has it in lanes 64 to 95, and zeros beside it. -/
theorem kr_at (c : Dev nD) (r : Fin 32768) (l : Fin 128) :
    V m c main_v0 (ix2 r l) = if h : 64 ≤ l.val ∧ l.val < 96 then
      m ((c.tc : Thread nD τ).loc main_arg3) (ix2 r (⟨l.val - 64, by omega⟩ : Fin 32)) else (0 : EReal) := by
  unfold V
  after_reads_at
  by_cases h : 64 ≤ l.val ∧ l.val < 96
  · rw [dif_pos ⟨h.1, by omega⟩, dif_pos h]
  · rw [dif_neg (fun q => h ⟨q.1, by omega⟩), dif_neg h]
    exact zero_word

/-- The weights' array has a head's columns in the first half of its lanes, and zeros in the other. -/
theorem w_at (c : Dev nD) (k : Fin 256) (l : Fin 2048) :
    V m c main_v4 (ix2 k l) = if h : l.val % 128 < 64 then
      m ((c.tc : Thread nD τ).loc main_arg2) (ix2 k (⟨l.val / 128 * 64 + l.val % 128, by omega⟩ : Fin 1024)) else (0 : EReal) := by
  unfold V
  after_reads_at
  have hd : l.val / 128 < 16 := by omega
  simp only [hd, true_and]
  by_cases h : l.val % 128 < 64
  · simp only [h, dite_true]
  · simp only [h, dite_false]
    exact zero_word

open Cert.Reference11Ideal in
/-- The reference's keys: the latents' part in a head's first lanes, then the rotated key, then zeros. -/
theorem ref_at (x0 : (⟨S32768x896, .f32⟩ : BufTy).Contents (Elt Ideal)) (x1 : (⟨S256, .f32⟩ : BufTy).Contents (Elt Ideal))
    (x2 : (⟨S256x1024, .f32⟩ : BufTy).Contents (Elt Ideal)) (x3 : (⟨S32768x32, .bf16⟩ : BufTy).Contents (Elt Ideal))
    (b : Fin 4) (h : Fin 16) (s : Fin 8192) (l : Fin 128) :
    val_main_v22 (F := Ideal) x0 x1 x2 x3 (ix4 b h s l)
      = if q : l.val < 64 then val_main_v14 (F := Ideal) x0 x1 x2 (ix2 (⟨b.val * 8192 + s.val, by omega⟩ : Fin 32768) (⟨h.val * 64 + l.val, by omega⟩ : Fin 1024))
        else if q : l.val < 96 then x3 (ix2 (⟨b.val * 8192 + s.val, by omega⟩ : Fin 32768) (⟨l.val - 64, by omega⟩ : Fin 32)) else (0 : EReal) := by
  pointwise [val_main_v22, val_main_v21, val_main_v20]
  by_cases h1 : l.val < 64
  · rw [dif_pos (show l.val < 96 by omega), dif_pos h1]
    unfold val_main_v19
    refine (concatenate_pair_apply_left (t := S4x8192x16x96) (s₁ := S4x8192x16x64) (s₂ := S4x8192x16x32) 3 _ _ _
      (ix4 b s h (⟨l.val, by omega⟩ : Fin 96)) rfl (ix4 b s h (⟨l.val, h1⟩ : Fin 64)) fun a => match a with | ⟨0, _⟩ => rfl | ⟨1, _⟩ => rfl | ⟨2, _⟩ => rfl | ⟨3, _⟩ => rfl).trans ?_
    rw [val_main_v15_apply]
    refine congrArg (val_main_v14 (F := Ideal) x0 x1 x2) ?_
    blk_ext []
  · by_cases h2 : l.val < 96
    · rw [dif_pos h2, dif_neg h1, dif_pos h2]
      unfold val_main_v19
      refine (concatenate_pair_apply_right (t := S4x8192x16x96) (s₁ := S4x8192x16x64) (s₂ := S4x8192x16x32) 3 _ _ _
        (ix4 b s h (⟨l.val, h2⟩ : Fin 96)) rfl rfl (ix4 b s h (⟨l.val - 64, by omega⟩ : Fin 32)) (fun a ha => match a with
          | ⟨0, _⟩ => rfl | ⟨1, _⟩ => rfl | ⟨2, _⟩ => rfl | ⟨3, _⟩ => absurd rfl ha) (by show l.val - 64 + 64 = l.val; omega)).trans ?_
      pointwise [val_main_v18, val_main_v17, val_main_v16]
    · rw [dif_neg h2, dif_neg h1, dif_neg h2]
      exact zero_word

/-- The rows of latents that a point reads. -/
theorem x0_at (c : Dev nD) (t : Fin cfg0.N) (r : Fin 512) (k : Fin 256) :
    X0_0 m c t (ix2 r k) = m ((c.tc : Thread nD τ).loc main_arg0) (ix2 (⟨t.val / 4 * 512 + r.val, by have : t.val < 256 := t.isLt; omega⟩ : Fin 32768) (⟨512 + k.val, by omega⟩ : Fin 896)) := by
  unfold X0_0 Pipeline.Window.fill
  rw [dif_pos (moved0_0 t _)]
  blk_point [iblk, V, idx t]

/-- The gain. -/
theorem x1_at (c : Dev nD) (t : Fin cfg0.N) (k : Fin 256) :
    iblk m c 1 t (ix2 0 k) = m ((c.tc : Thread nD τ).loc main_arg1) (ix1 k) := by
  have e : iblk m c 1 t (ix2 0 k) = V m c main_v5 (ix2 (0 : Fin 1) k) := congrArg (V m c main_v5) (by blk_ext [idx t])
  rw [e]
  unfold V
  after_reads_at

/-- The weights that a point reads. -/
theorem x2_at (c : Dev nD) (t : Fin cfg0.N) (k : Fin 256) (l : Fin 512) :
    iblk m c 2 t (ix2 k l) = V m c main_v4 (ix2 k (⟨t.val % 4 * 512 + l.val, by omega⟩ : Fin 2048)) :=
  congrArg (V m c main_v4) (by blk_ext [idx t])

/-- The rows of the rotated key that a point reads. -/
theorem x3_at (c : Dev nD) (t : Fin cfg0.N) (r : Fin 512) (l : Fin 128) :
    iblk m c 3 t (ix2 r l) = V m c main_v0 (ix2 (⟨t.val / 4 * 512 + r.val, by have : t.val < 256 := t.isLt; omega⟩ : Fin 32768) l) :=
  congrArg (V m c main_v0) (by blk_ext [idx t])

/-- The keys that the kernel leaves are the reference's. -/
theorem final (c : Dev nD) : (dats m 0 c).arrAt 4 cfg0.N = refOut m c := by
  refine (dats m 0 c).arrAt_eq_of_covers 4 _ (by decide +kernel) fun t hf y => ?_
  blk_simp
  rw [after0_4, out_at]
  have hN : t.val < 256 := t.isLt
  obtain ⟨h, r, l, rfl⟩ : ∃ (h : Fin 4) (r : Fin 512) (l : Fin 128), y = ix4 (0 : Fin 1) h r l := ⟨y 1, y 2, y 3, by blk_ext []⟩
  have e : (((View.whole main_v6).slice (win0_4.rect t)).emb (ix4 (0 : Fin 1) h r l))
      = ix4 (⟨t.val / 4 / 16, by omega⟩ : Fin 4) (⟨t.val % 4 * 4 + h.val, by omega⟩ : Fin 16) (⟨t.val / 4 % 16 * 512 + r.val, by omega⟩ : Fin 8192) l := by blk_ext [idx t]
  refine Eq.trans ?_ (congrArg (refOut m c) e).symm
  unfold refOut
  rw [ref_at]
  have hw : ∀ x : Fin 256, iblk m c 2 t (ix2 x (⟨h.val * 128 + l.val, by omega⟩ : Fin 512)) = if q : l.val < 64 then
      m ((c.tc : Thread nD τ).loc main_arg2) (ix2 x (⟨(t.val % 4 * 4 + h.val) * 64 + l.val, by omega⟩ : Fin 1024)) else (0 : EReal) := fun x => by
    rw [x2_at, w_at]
    by_cases q : l.val < 64
    · rw [dif_pos (show (t.val % 4 * 512 + (h.val * 128 + l.val)) % 128 < 64 by omega), dif_pos q]
      refine congrArg (m ((c.tc : Thread nD τ).loc main_arg2)) (congrArg₂ ix2 rfl (Fin.ext ?_))
      show (t.val % 4 * 512 + (h.val * 128 + l.val)) / 128 * 64 + (t.val % 4 * 512 + (h.val * 128 + l.val)) % 128 = (t.val % 4 * 4 + h.val) * 64 + l.val
      omega
    · rw [dif_neg (show ¬ (t.val % 4 * 512 + (h.val * 128 + l.val)) % 128 < 64 by omega), dif_neg q]
  have hk := (x3_at m c t r l).trans (kr_at m c _ l)
  unfold tile
  pointwise [k0_pay4]
  by_cases h1 : l.val < 64
  · rw [dif_pos h1]
    refine (congrArg₂ (fun a b : EReal => a + b) rfl (hk.trans (dif_neg fun q => absurd q.1 (by omega)))).trans ((add_zero (M := EReal) _).trans ?_)
    pointwise [val_main_v0, val_main_v1, val_main_v2, val_main_v3, val_main_v4, val_main_v5, val_main_v6, val_main_v7, val_main_v8, val_main_v9, val_main_v10, val_main_v11, val_main_v12, val_main_v13, val_main_v14, val_main_cst, val_main_cst_0, val_main_cst_1]
    refine congrArg (fun f : Fin 256 → EReal => ∑ x, f x) (funext fun x => ?_)
    refine congrArg₂ (fun a b : EReal => a * b) ?_ ((hw x).trans ((dif_pos h1).trans ?_))
    · simp only [x0_at, x1_at]
      blk_point []
    · blk_point []
  · have hz : ∀ f : Fin 256 → EReal, (∑ x, f x * (iblk m c 2 t (ix2 x (⟨h.val * 128 + l.val, by omega⟩ : Fin 512)) : EReal)) = 0 := fun f =>
      (congrArg (fun f : Fin 256 → EReal => ∑ x, f x) (funext fun x =>
        (congrArg₂ (fun a b : EReal => a * b) rfl ((hw x).trans (dif_neg h1))).trans (mul_zero (M₀ := EReal) _))).trans Finset.sum_const_zero
    rw [dif_neg h1]
    refine (congrArg₂ (fun a b : EReal => a + b) (hz _) hk).trans ((zero_add (M := EReal) _).trans ?_)
    by_cases h2 : l.val < 96
    · rw [dif_pos h2]
      refine (dif_pos (show 64 ≤ l.val ∧ l.val < 96 from ⟨by omega, h2⟩)).trans ?_
      blk_point []
    · rw [dif_neg h2]
      exact dif_neg fun q => h2 q.2

end Cert.Kernel11Ideal.RefValue
-- ==== Proof.Compress.lean ====
module

public import proofs.«01_k».proof.Proof.Gen.Kernel10Ideal.Value
public import proofs.«01_k».proof.Proof.Gen.Reference10Ideal.Read
public import Idealize.ShloMosaic.Lib.Pointwise
public import Idealize.ShloMosaic.Lib.Pipeline.ValueKit

/-! The compression of the first mixer's keys and values: the array the kernel leaves is the reference's result. -/

@[expose] public section

noncomputable section

namespace Cert.Kernel10Ideal.RefValue

open Cert.Kernel10Ideal Cert.Kernel10Ideal.Gen Idealize.ShloMosaic Idealize.SL.Sem
open Cert.Reference10Ideal.Read

/-- The smooth step in its form with the hyperbolic tangent. -/
def gelu (h : EReal) : EReal :=
  h * (Ideal.ofBits .f32 0x3F000000#32 * (1
    + Ideal.tanh (Ideal.ofBits .f32 0x3F4C422A#32 * (h + Ideal.ofBits .f32 0x3D372713#32 * (h * (h * h))))))

/-- One feature of a block of two rows `r` and `s`, before the smooth step. -/
def block (r s p q v w : Fin 2048 → EReal) : EReal := ∑ k, (r k + p k) * v k + ∑ k, (s k + q k) * w k

theorem pay2_apply (v0 : FVec Ideal S1x1x512x2048 .bf16) (v3 : FVec Ideal S1x2048 .f32) (v8 : FVec Ideal S2048x128 .bf16)
    (v11 : FVec Ideal S1x2048 .f32) (v16 : FVec Ideal S2048x128 .bf16) (r : Fin 512) (l : Fin 128) :
    k0_pay2 (F := Ideal) v0 v3 v8 v11 v16 (ix2 r l) = gelu (block (fun k => v0 (ix4 0 0 r k))
      (fun k => v0 (ix4 0 0 ⟨(r.val + 1) % 512, Nat.mod_lt _ (by decide)⟩ k)) (fun k => v3 (ix2 0 k)) (fun k => v11 (ix2 0 k))
      (fun k => v8 (ix2 k l)) (fun k => v16 (ix2 k l))) := by
  unfold gelu block
  pointwise [k0_pay2]
  simp only [show r.val + 512 - 511 = r.val + 1 by omega]

/-- The row after the last of a sequence is its first. -/
theorem roll_apply (x0 : (⟨S4x4x512x2048, .bf16⟩ : BufTy).Contents (Elt Ideal)) (b g : Fin 4) (r : Fin 512) (k : Fin 2048) :
    val_main_v1 (F := Ideal) x0 (ix4 b g r k) = x0 (ix4 b g ⟨(r.val + 1) % 512, Nat.mod_lt _ (by decide)⟩ k) := by
  unfold val_main_v1
  by_cases h : r.val < 511
  · refine (concatenate_pair_apply_left (t := Reference10Ideal.S4x4x512x2048) (s₁ := Reference10Ideal.S4x4x511x2048) (s₂ := Reference10Ideal.S4x4x1x2048) 2 _ _ _ (ix4 b g r k) rfl
      (ix4 b g (⟨r.val, h⟩ : Fin 511) k) fun a => match a with | ⟨0, _⟩ => rfl | ⟨1, _⟩ => rfl | ⟨2, _⟩ => rfl | ⟨3, _⟩ => rfl).trans ?_
    pointwise [val_main_call0_v0, val_main_v0]
    have q : (r.val + 1) % 512 = 1 + r.val := by omega
    refine congrArg x0 ?_
    blk_ext [q]
  · refine (concatenate_pair_apply_right (t := Reference10Ideal.S4x4x512x2048) (s₁ := Reference10Ideal.S4x4x511x2048) (s₂ := Reference10Ideal.S4x4x1x2048) 2 _ _ _ (ix4 b g r k) rfl rfl
      (ix4 b g (0 : Fin 1) k) (fun a ha => match a with
        | ⟨0, _⟩ => rfl | ⟨1, _⟩ => rfl | ⟨2, _⟩ => absurd rfl ha | ⟨3, _⟩ => rfl) (by show 0 + 511 = r.val; omega)).trans ?_
    pointwise [val_main_call0_v1, val_main_v0]
    have q : (r.val + 1) % 512 = 0 := by omega
    refine congrArg x0 ?_
    blk_ext [q]

theorem pair_left (x0 : (⟨S4x4x512x2048, .bf16⟩ : BufTy).Contents (Elt Ideal)) (b g : Fin 4) (r : Fin 512) (k : Fin 2048) :
    val_main_v2 (F := Ideal) x0 (ix4 b g r ⟨k.val, by omega⟩) = x0 (ix4 b g r k) := by
  unfold val_main_v2
  exact concatenate_pair_apply_left (t := Reference10Ideal.S4x4x512x4096) (s₁ := Reference10Ideal.S4x4x512x2048) (s₂ := Reference10Ideal.S4x4x512x2048) 3 _ _ _
    (ix4 b g r (⟨k.val, by omega⟩ : Fin 4096)) rfl (ix4 b g r k) fun a => match a with | ⟨0, _⟩ => rfl | ⟨1, _⟩ => rfl | ⟨2, _⟩ => rfl | ⟨3, _⟩ => rfl

theorem pair_right (x0 : (⟨S4x4x512x2048, .bf16⟩ : BufTy).Contents (Elt Ideal)) (b g : Fin 4) (r : Fin 512) (k : Fin 2048) :
    val_main_v2 (F := Ideal) x0 (ix4 b g r ⟨2048 + k.val, by omega⟩) = x0 (ix4 b g ⟨(r.val + 1) % 512, Nat.mod_lt _ (by decide)⟩ k) := by
  unfold val_main_v2
  refine (concatenate_pair_apply_right (t := Reference10Ideal.S4x4x512x4096) (s₁ := Reference10Ideal.S4x4x512x2048) (s₂ := Reference10Ideal.S4x4x512x2048) 3 _ _ _
    (ix4 b g r (⟨2048 + k.val, by omega⟩ : Fin 4096)) rfl rfl (ix4 b g r k) (fun a ha => match a with
      | ⟨0, _⟩ => rfl | ⟨1, _⟩ => rfl | ⟨2, _⟩ => rfl | ⟨3, _⟩ => absurd rfl ha) (by show k.val + 2048 = 2048 + k.val; omega)).trans (roll_apply x0 b g r k)

/-- A sum over both rows of a block is the sum over the one and the sum over the other. -/
theorem sum_split (f : Fin 4096 → EReal) :
    ∑ k, f k = ∑ k : Fin 2048, f ⟨k.val, by omega⟩ + ∑ k : Fin 2048, f ⟨2048 + k.val, by omega⟩ :=
  Fin.sum_univ_add (a := 2048) (b := 2048) f

theorem ref_block (x0 : (⟨S4x4x512x2048, .bf16⟩ : BufTy).Contents (Elt Ideal)) (x1 : (⟨S32x128, .f32⟩ : BufTy).Contents (Elt Ideal))
    (x2 : (⟨S32x128x128, .f32⟩ : BufTy).Contents (Elt Ideal)) (b g : Fin 4) (r : Fin 512) (l : Fin 128) :
    val_main_v8 (F := Ideal) x0 x1 x2 (ix4 b g r l) = block (fun k => x0 (ix4 b g r k))
      (fun k => x0 (ix4 b g ⟨(r.val + 1) % 512, Nat.mod_lt _ (by decide)⟩ k))
      (fun k => x1 (ix2 ⟨k.val / 128, by omega⟩ ⟨k.val % 128, by omega⟩))
      (fun k => x1 (ix2 ⟨16 + k.val / 128, by omega⟩ ⟨k.val % 128, by omega⟩))
      (fun k => x2 (ix3 ⟨k.val / 128, by omega⟩ ⟨k.val % 128, by omega⟩ l))
      (fun k => x2 (ix3 ⟨16 + k.val / 128, by omega⟩ ⟨k.val % 128, by omega⟩ l)) := by
  rw [val_main_v8_apply, sum_split]
  unfold block
  refine congrArg₂ (· + ·) (Finset.sum_congr rfl fun k _ => ?_) (Finset.sum_congr rfl fun k _ => ?_)
  · refine congrArg₂ (· * ·) ?_ ?_
    · rw [val_main_v6_apply]
      refine congrArg₂ (· + ·) ((congrArg _ (by blk_ext [])).trans (pair_left x0 b g r k)) ?_
      rw [val_main_v5_apply, val_main_v4_apply, val_main_v3_apply]
      exact congrArg x1 (by blk_ext [])
    · rw [val_main_v7_apply]
      exact congrArg x2 (by blk_ext [])
  · refine congrArg₂ (· * ·) ?_ ?_
    · rw [val_main_v6_apply]
      refine congrArg₂ (· + ·) ((congrArg _ (by blk_ext [])).trans (pair_right x0 b g r k)) ?_
      rw [val_main_v5_apply, val_main_v4_apply, val_main_v3_apply]
      exact congrArg x1 (by blk_ext [])
    · rw [val_main_v7_apply]
      exact congrArg x2 (by blk_ext [])

theorem ref_gelu (x0 : (⟨S4x4x512x2048, .bf16⟩ : BufTy).Contents (Elt Ideal)) (x1 : (⟨S32x128, .f32⟩ : BufTy).Contents (Elt Ideal))
    (x2 : (⟨S32x128x128, .f32⟩ : BufTy).Contents (Elt Ideal)) (i : S4x4x512x128.Idx) :
    val_main_v21 (F := Ideal) x0 x1 x2 i = gelu (val_main_v8 (F := Ideal) x0 x1 x2 i) := by
  pointwise [val_main_v9, val_main_v10, val_main_v11, val_main_v12, val_main_v13, val_main_v14, val_main_v15, val_main_v16,
    val_main_v17, val_main_v18, val_main_v19, val_main_v20, val_main_v21, val_main_cst, val_main_cst_0, val_main_cst_1, val_main_cst_2]
  unfold gelu
  rw [mul_assoc (val_main_v8 (F := Ideal) x0 x1 x2 i)]

variable (m : (ℓ : Loc nD τ sig) → Buf (Elt Ideal) ℓ)

/-- The reference's result over the arrays that the kernel was launched with. -/
def refOut (c : Dev nD) : (⟨S4x4x512x128, .bf16⟩ : BufTy).Contents (Elt Ideal) :=
  val_main_v23 (F := Ideal) (m ((c.tc : Thread nD τ).loc main_arg0)) (m ((c.tc : Thread nD τ).loc main_arg1))
    (m ((c.tc : Thread nD τ).loc main_arg2)) (m ((c.tc : Thread nD τ).loc main_arg3))

/-- Where the blocks of each window stand: sequence `t / 4`, head `t % 4`. -/
theorem idx : ∀ t : Fin cfg0.N,
    win0_0.index t = ![t.val / 4, t.val % 4, 0, 0] ∧ win0_1.index t = ![0, 0] ∧ win0_2.index t = ![0, 0]
      ∧ win0_3.index t = ![0, 0] ∧ win0_4.index t = ![0, 0] ∧ win0_5.index t = ![0, 0]
      ∧ win0_6.index t = ![t.val / 4, t.val % 4, 0, 0] := by
  decide +kernel

theorem final (c : Dev nD) : (dats m 0 c).arrAt 6 cfg0.N = refOut m c := by
  refine (dats m 0 c).arrAt_eq_of_covers 6 _ (by decide +kernel) fun t hf y => ?_
  blk_simp
  rw [after0_6]
  unfold out0_6
  frame_out
  obtain ⟨r, l, rfl⟩ : ∃ (r : Fin 512) (l : Fin 128), y = ix4 (0 : Fin 1) (0 : Fin 1) r l := ⟨y 2, y 3, by blk_ext []⟩
  have hN : t.val < 16 := t.isLt
  have e : (((View.whole main_v11).slice (win0_6.rect t)).emb (ix4 (0 : Fin 1) (0 : Fin 1) r l))
      = ix4 (⟨t.val / 4, by omega⟩ : Fin 4) (⟨t.val % 4, by omega⟩ : Fin 4) r l := by blk_ext [idx t]
  refine Eq.trans ?_ (congrArg (refOut m c) e).symm
  unfold refOut
  rw [val_main_v23_apply, val_main_v22_apply]
  pointwise [k0_pay1, k0_pay3]
  refine congrArg (fun f : Fin 128 → EReal => ∑ x, f x) (funext fun x => ?_)
  refine congrArg₂ (fun a b : EReal => a * b) ?_ ?_
  · rw [pay2_apply]
    refine Eq.trans ?_ ((ref_gelu _ _ _ _).trans (congrArg gelu ((congrArg (val_main_v8 (F := Ideal) _ _ _)
      (show lidx_main_v22 _ x = ix4 (⟨t.val / 4, by omega⟩ : Fin 4) (⟨t.val % 4, by omega⟩ : Fin 4) r x by blk_ext [])).trans
      (ref_block _ _ _ _ _ _ _)))).symm
    refine congrArg gelu ?_
    refine congrArg₂ (· + ·) (Finset.sum_congr rfl fun k _ => congrArg₂ (· * ·) (congrArg₂ (· + ·) ?_ ?_) ?_)
      (Finset.sum_congr rfl fun k _ => congrArg₂ (· * ·) (congrArg₂ (· + ·) ?_ ?_) ?_)
    · blk_point [iblk, V, idx t]
    · blk_point [iblk, V, idx t]
    · blk_point [iblk, V, idx t]
    · blk_point [iblk, V, idx t]
    · blk_point [iblk, V, idx t]
    · blk_point [iblk, V, idx t]
  · blk_point [iblk, V, idx t]

end Cert.Kernel10Ideal.RefValue

end
-- ==== Proof.Values.lean ====
module

public import proofs.«01_k».proof.Proof.Gen.Kernel8Ideal.Value
public import proofs.«01_k».proof.Proof.Gen.Reference8Ideal.Read
public import Idealize.ShloMosaic.Lib.Pointwise
public import Idealize.ShloMosaic.Lib.Pipeline.ValueKit
public import Idealize.ShloMosaic.Lib.Pipeline.ReadBack
public import Idealize.ShloMosaic.Lib.StableHlo.ReadAt

/-! The input projection's columns of the values, head by head: the array the kernel leaves is the reference's result. -/

@[expose] public section

noncomputable section

namespace Cert.Kernel8Ideal.RefValue

open Cert.Kernel8Ideal Cert.Kernel8Ideal.Gen Idealize.ShloMosaic Idealize.SL.Sem
open Cert.Reference8Ideal.Read

variable (m : (ℓ : Loc nD τ sig) → Buf (Elt Ideal) ℓ)

/-- The reference's result over the arrays that the kernel was launched with. -/
def refOut (c : Dev nD) : (⟨S4x12x8192x128, .bf16⟩ : BufTy).Contents (Elt Ideal) :=
  val_main_v11 (F := Ideal) (m ((c.tc : Thread nD τ).loc main_arg0)) (m ((c.tc : Thread nD τ).loc main_arg1))

/-- Where the blocks of each window stand: row tile `t / 3`, column tile `t % 3`. -/
theorem idx : ∀ t : Fin cfg0.N,
    win0_0.index t = ![t.val / 3, 0] ∧ win0_1.index t = ![0, t.val % 3]
      ∧ win0_2.index t = ![t.val / 3 / 4, t.val % 3, t.val / 3 % 4, 0] := by
  decide +kernel

/-- The fill of the padded lanes is zero. -/
theorem zero_word {e : FTy} : FloatOps.sitofp (F := Ideal) e 0#32 = (0 : EReal) := by
  show (((0#32 : BitVec 32).toInt : ℝ) : EReal) = 0
  simp

/-- The first column of the values of a branch in the input projection: selection, window, compression. -/
def start (g : ℕ) : ℕ := if g = 0 then 2560 else if g = 1 then 3200 else 1920

theorem start_le (g : ℕ) : start g ≤ 3200 := by
  unfold start
  split_ifs <;> omega

/-- The weights' array has a head's columns in the first half of its lanes, and zeros in the other. -/
theorem w_at (c : Dev nD) (k : Fin 2048) (l : Fin 1536) :
    V m c main_v13 (ix2 k l) = if h : l.val % 128 < 64 then
      m ((c.tc : Thread nD τ).loc main_arg1) (ix2 k (⟨start (l.val / 512) + (l.val % 512 / 128 * 64 + l.val % 128), by have := start_le (l.val / 512); omega⟩ : Fin 8400)) else (0 : EReal) := by
  unfold V
  after_reads_at
  by_cases a : l.val < 512
  · rw [dif_pos a]
    after_reads_at
    by_cases q : l.val % 128 < 64
    · refine (dif_pos (show l.val / 128 < 4 ∧ l.val % 128 < 64 by omega)).trans (Eq.trans ?_ (dif_pos q).symm)
      refine congrArg (m ((c.tc : Thread nD τ).loc main_arg1)) (congrArg₂ ix2 rfl (Fin.ext ?_))
      show 2560 + (l.val / 128 * 64 + l.val % 128) = start (l.val / 512) + (l.val % 512 / 128 * 64 + l.val % 128)
      rw [show l.val / 512 = 0 by omega]
      show _ = 2560 + _
      omega
    · refine (dif_neg (show ¬ (l.val / 128 < 4 ∧ l.val % 128 < 64) by omega)).trans (Eq.trans ?_ (dif_neg q).symm)
      exact zero_word
  · rw [dif_neg a]
    by_cases b : l.val - 512 < 512
    · rw [dif_pos b]
      after_reads_at
      by_cases q : l.val % 128 < 64
      · refine (dif_pos (show (l.val - 512) / 128 < 4 ∧ (l.val - 512) % 128 < 64 by omega)).trans (Eq.trans ?_ (dif_pos q).symm)
        refine congrArg (m ((c.tc : Thread nD τ).loc main_arg1)) (congrArg₂ ix2 rfl (Fin.ext ?_))
        show 3200 + ((l.val - 512) / 128 * 64 + (l.val - 512) % 128) = start (l.val / 512) + (l.val % 512 / 128 * 64 + l.val % 128)
        rw [show l.val / 512 = 1 by omega]
        show _ = 3200 + _
        omega
      · refine (dif_neg (show ¬ ((l.val - 512) / 128 < 4 ∧ (l.val - 512) % 128 < 64) by omega)).trans (Eq.trans ?_ (dif_neg q).symm)
        exact zero_word
    · rw [dif_neg b]
      after_reads_at
      by_cases q : l.val % 128 < 64
      · refine (dif_pos (show (l.val - 512 - 512) / 128 < 4 ∧ (l.val - 512 - 512) % 128 < 64 by omega)).trans (Eq.trans ?_ (dif_pos q).symm)
        refine congrArg (m ((c.tc : Thread nD τ).loc main_arg1)) (congrArg₂ ix2 rfl (Fin.ext ?_))
        show 1920 + ((l.val - 512 - 512) / 128 * 64 + (l.val - 512 - 512) % 128) = start (l.val / 512) + (l.val % 512 / 128 * 64 + l.val % 128)
        rw [show l.val / 512 = 2 by omega]
        show _ = 1920 + _
        omega
      · refine (dif_neg (show ¬ ((l.val - 512 - 512) / 128 < 4 ∧ (l.val - 512 - 512) % 128 < 64) by omega)).trans (Eq.trans ?_ (dif_neg q).symm)
        exact zero_word

/-- The reference's values: a head's columns in the first half of its lanes, and zeros in the other. -/
theorem ref_at (x0 : (⟨S32768x2048, .bf16⟩ : BufTy).Contents (Elt Ideal)) (x1 : (⟨S2048x8400, .f32⟩ : BufTy).Contents (Elt Ideal))
    (b : Fin 4) (h : Fin 12) (s : Fin 8192) (l : Fin 128) :
    val_main_v11 (F := Ideal) x0 x1 (ix4 b h s l)
      = if q : l.val < 64 then val_main_v1 (F := Ideal) x0 x1 (ix2 (⟨b.val * 8192 + s.val, by omega⟩ : Fin 32768) (⟨start (h.val / 4) + (h.val % 4 * 64 + l.val), by have := start_le (h.val / 4); omega⟩ : Fin 8400))
        else (0 : EReal) := by
  pointwise [val_main_v11, val_main_v10, val_main_v9]
  by_cases h1 : l.val < 64
  · rw [dif_pos h1, dif_pos h1]
    pointwise [val_main_v8, val_main_v2, val_main_v3, val_main_v4, val_main_v5, val_main_v6, val_main_v7]
    by_cases a : h.val < 4
    · rw [dif_pos a]
      refine congrArg (val_main_v1 (F := Ideal) x0 x1) (congrArg₂ ix2 rfl (Fin.ext ?_))
      show 2560 + (h.val * 64 + l.val) = start (h.val / 4) + (h.val % 4 * 64 + l.val)
      rw [show h.val / 4 = 0 by omega]
      show _ = 2560 + _
      omega
    · rw [dif_neg a]
      by_cases b : h.val - 4 < 4
      · rw [dif_pos b]
        refine congrArg (val_main_v1 (F := Ideal) x0 x1) (congrArg₂ ix2 rfl (Fin.ext ?_))
        show 3200 + ((h.val - 4) * 64 + l.val) = start (h.val / 4) + (h.val % 4 * 64 + l.val)
        rw [show h.val / 4 = 1 by omega]
        show _ = 3200 + _
        omega
      · rw [dif_neg b]
        refine congrArg (val_main_v1 (F := Ideal) x0 x1) (congrArg₂ ix2 rfl (Fin.ext ?_))
        show 1920 + ((h.val - 4 - 4) * 64 + l.val) = start (h.val / 4) + (h.val % 4 * 64 + l.val)
        rw [show h.val / 4 = 2 by omega]
        show _ = 1920 + _
        omega
  · rw [dif_neg h1, dif_neg h1]
    exact zero_word

/-- The rows that a point reads. -/
theorem x0_at (c : Dev nD) (t : Fin cfg0.N) (r : Fin 2048) (k : Fin 2048) :
    iblk m c 0 t (ix2 r k) = m ((c.tc : Thread nD τ).loc main_arg0) (ix2 (⟨t.val / 3 * 2048 + r.val, by have : t.val < 48 := t.isLt; omega⟩ : Fin 32768) k) := by
  blk_point [iblk, V, idx t]

/-- The weights that a point reads. -/
theorem x1_at (c : Dev nD) (t : Fin cfg0.N) (k : Fin 2048) (l : Fin 512) :
    iblk m c 1 t (ix2 k l) = V m c main_v13 (ix2 k (⟨t.val % 3 * 512 + l.val, by omega⟩ : Fin 1536)) :=
  congrArg (V m c main_v13) (by blk_ext [idx t])

/-- The values that the kernel leaves are the reference's. -/
theorem final (c : Dev nD) : (dats m 0 c).arrAt 2 cfg0.N = refOut m c := by
  refine (dats m 0 c).arrAt_eq_of_covers 2 _ (by decide +kernel) fun t hf y => ?_
  blk_simp
  rw [after0_2]
  unfold out0_2
  refine Eq.trans (Value.canon2_eq _ _ y) ?_
  have hN : t.val < 48 := t.isLt
  obtain ⟨h, r, l, rfl⟩ : ∃ (h : Fin 4) (r : Fin 2048) (l : Fin 128), y = ix4 (0 : Fin 1) h r l := ⟨y 1, y 2, y 3, by blk_ext []⟩
  have e : (((View.whole main_v14).slice (win0_2.rect t)).emb (ix4 (0 : Fin 1) h r l))
      = ix4 (⟨t.val / 3 / 4, by omega⟩ : Fin 4) (⟨t.val % 3 * 4 + h.val, by omega⟩ : Fin 12) (⟨t.val / 3 % 4 * 2048 + r.val, by omega⟩ : Fin 8192) l := by blk_ext [idx t]
  refine Eq.trans ?_ (congrArg (refOut m c) e).symm
  unfold refOut
  rw [ref_at]
  have hw : ∀ x : Fin 2048, iblk m c 1 t (ix2 x (⟨h.val * 128 + l.val, by omega⟩ : Fin 512)) = if q : l.val < 64 then
      m ((c.tc : Thread nD τ).loc main_arg1) (ix2 x (⟨start (t.val % 3) + (h.val * 64 + l.val), by have := start_le (t.val % 3); omega⟩ : Fin 8400)) else (0 : EReal) := fun x => by
    rw [x1_at, w_at]
    by_cases q : l.val < 64
    · rw [dif_pos (show (t.val % 3 * 512 + (h.val * 128 + l.val)) % 128 < 64 by omega), dif_pos q]
      refine congrArg (m ((c.tc : Thread nD τ).loc main_arg1)) (congrArg₂ ix2 rfl (Fin.ext ?_))
      show start ((t.val % 3 * 512 + (h.val * 128 + l.val)) / 512) + ((t.val % 3 * 512 + (h.val * 128 + l.val)) % 512 / 128 * 64 + (t.val % 3 * 512 + (h.val * 128 + l.val)) % 128) = start (t.val % 3) + (h.val * 64 + l.val)
      rw [show (t.val % 3 * 512 + (h.val * 128 + l.val)) / 512 = t.val % 3 by omega]
      omega
    · rw [dif_neg (show ¬ (t.val % 3 * 512 + (h.val * 128 + l.val)) % 128 < 64 by omega), dif_neg q]
  pointwise [k0_pay1]
  by_cases h1 : l.val < 64
  · rw [dif_pos h1]
    pointwise [val_main_v0, val_main_v1]
    refine congrArg (fun f : Fin 2048 → EReal => ∑ x, f x) (funext fun x => ?_)
    refine congrArg₂ (fun a b : EReal => a * b) ?_ ((hw x).trans ((dif_pos h1).trans ?_))
    · simp only [x0_at]
      blk_point []
    · refine congrArg (m ((c.tc : Thread nD τ).loc main_arg1)) (congrArg₂ ix2 rfl (Fin.ext ?_))
      show start (t.val % 3) + (h.val * 64 + l.val) = start ((t.val % 3 * 4 + h.val) / 4) + ((t.val % 3 * 4 + h.val) % 4 * 64 + l.val)
      rw [show (t.val % 3 * 4 + h.val) / 4 = t.val % 3 by omega]
      omega
  · have hz : ∀ f : Fin 2048 → EReal, (∑ x, f x * (iblk m c 1 t (ix2 x (⟨h.val * 128 + l.val, by omega⟩ : Fin 512)) : EReal)) = 0 := fun f =>
      (congrArg (fun f : Fin 2048 → EReal => ∑ x, f x) (funext fun x =>
        (congrArg₂ (fun a b : EReal => a * b) rfl ((hw x).trans (dif_neg h1))).trans (mul_zero (M₀ := EReal) _))).trans Finset.sum_const_zero
    rw [dif_neg h1]
    exact hz _

end Cert.Kernel8Ideal.RefValue
-- ==== Proof.Latent.lean ====
module

public import proofs.«01_k».proof.Proof.Gen.Kernel9Ideal.Value
public import proofs.«01_k».proof.Proof.Gen.Reference9Ideal.Read
public import Idealize.ShloMosaic.Lib.Pointwise
public import Idealize.ShloMosaic.Lib.Pipeline.ValueKit
public import Idealize.ShloMosaic.Lib.Pipeline.ValueKit.Held
public import Idealize.ShloMosaic.Lib.Pipeline.ValueKit.Tiles
public import Idealize.ShloMosaic.Lib.Pipeline.ReadBack
public import Idealize.ShloMosaic.Lib.StableHlo.ReadAt

/-! The second mixer's values from its latents, head by head: the array the kernel leaves is the reference's result. -/

@[expose] public section

noncomputable section

namespace Cert.Kernel9Ideal.RefValue

open Cert.Kernel9Ideal Cert.Kernel9Ideal.Gen Idealize.ShloMosaic Idealize.SL.Sem
open Cert.Reference9Ideal.Read

variable (m : (ℓ : Loc nD τ sig) → Buf (Elt Ideal) ℓ)

/-- The reference's result over the arrays that the kernel was launched with. -/
def refOut (c : Dev nD) : (⟨S4x16x8192x128, .bf16⟩ : BufTy).Contents (Elt Ideal) :=
  val_main_v18 (F := Ideal) (m ((c.tc : Thread nD τ).loc main_arg0)) (m ((c.tc : Thread nD τ).loc main_arg1)) (m ((c.tc : Thread nD τ).loc main_arg2))

/-- Where the blocks of each window stand: row tile `t / 4`, column tile `t % 4`. -/
theorem idx : ∀ t : Fin cfg0.N,
    win0_0.index t = ![t.val / 4, 2] ∧ win0_1.index t = ![0, 0] ∧ win0_2.index t = ![0, t.val % 4]
      ∧ win0_3.index t = ![t.val / 4 / 2, t.val % 4, t.val / 4 % 2, 0] := by
  decide +kernel

/-- The normed rows, which the first point of a row tile stores. -/
def normed (c : Dev nD) (t : Fin cfg0.N) : FVec Ideal S4096x256 .bf16 := k0_pay1 (F := Ideal) (iblk m c 0 t) (iblk m c 1 t)

/-- The points of a row tile hold the rows of its first point. -/
theorem held (c : Dev nD) (t : Fin cfg0.N) : (outsAt0 m c t.val t.isLt).2 = normed m c t := by
  funext y
  have h := Pipeline.eq_of_write_hold_apply (fun n h => (outsAt0 m c n h).2) 4
    (fun t i => k0_pay1 (F := Ideal) (iblk m c 0 t) (iblk m c 1 t) i) ?_ ?_ t y
  · rw [h]
    have hs : 4 * (t.val / 4) < cfg0.N := by have := t.isLt; omega
    have e0 : iblk m c 0 ⟨4 * (t.val / 4), hs⟩ = iblk m c 0 t := by
      funext z
      have q : 4 * (t.val / 4) / 4 = t.val / 4 := by omega
      exact congrArg (V m c main_arg0) (by blk_ext [idx t, idx ⟨4 * (t.val / 4), hs⟩, q])
    have e1 : iblk m c 1 ⟨4 * (t.val / 4), hs⟩ = iblk m c 1 t := by
      funext z
      exact congrArg (V m c main_v4) (by blk_ext [idx t, idx ⟨4 * (t.val / 4), hs⟩])
    rw [normed, ← e0, ← e1]
  · intro t h0 i
    rw [outsAt0_A m c t h0]
    frame_out
  · intro t h0 i
    rw [outsAt0_B m c t h0]
    rfl

/-- The four heads of a column tile, each stored apart, are the tile. -/
def tile (a : FVec Ideal S4096x256 .bf16) (w : FVec Ideal S256x512 .bf16) : FVec Ideal S1x4x4096x128 .bf16 :=
  fun y => k0_pay2 (F := Ideal) a w (ix2 (⟨(y 2).val, (y 2).isLt⟩ : Fin 4096)
    (⟨(y 1).val * 128 + (y 3).val, by have h1 : (y 1).val < 4 := (y 1).isLt; have h3 : (y 3).val < 128 := (y 3).isLt; omega⟩ : Fin 512))

theorem tiles (a : FVec Ideal S4096x256 .bf16) (w : FVec Ideal S256x512 .bf16) :
    View.canon (Val := Elt Ideal) (s := S1x4x4096x128) (e := .bf16) [⟨Rect.unit ![0, 3, 0, 0] ![1, 1, 4096, 128] inb_S1x4x4096x128_S1x1x4096x128_0_3_0_0, k0_pay6 (F := Ideal) a w⟩,
      ⟨Rect.unit ![0, 2, 0, 0] ![1, 1, 4096, 128] inb_S1x4x4096x128_S1x1x4096x128_0_2_0_0, k0_pay5 (F := Ideal) a w⟩,
      ⟨Rect.unit ![0, 1, 0, 0] ![1, 1, 4096, 128] inb_S1x4x4096x128_S1x1x4096x128_0_1_0_0, k0_pay4 (F := Ideal) a w⟩,
      ⟨Rect.unit ![0, 0, 0, 0] ![1, 1, 4096, 128] inb_S1x4x4096x128_S1x1x4096x128_0_0_0_0, k0_pay3 (F := Ideal) a w⟩]
      = tile a w := by
  funext y
  unfold tile
  canon_tiles x h
  all_goals
    pointwise [k0_pay3, k0_pay4, k0_pay5, k0_pay6]
    refine congrArg _ (congrArg₂ ix2 (Fin.ext ?_) (Fin.ext ?_))
    all_goals
      dsimp only
      omega

theorem out_at (c : Dev nD) (t : Fin cfg0.N) : (outsAt0 m c t.val t.isLt).1 = tile (normed m c t) (iblk m c 2 t) := by
  by_cases h0 : t.val % 4 = 0
  · rw [outsAt0_A m c t h0]
    frame_out
    exact tiles _ _
  · have e : (outsAt0 m c (t.val - 1) (Nat.lt_of_le_of_lt (Nat.sub_le _ _) t.isLt)).2 = normed m c t := by
      rw [← held m c t, outsAt0_B m c t h0]
      rfl
    rw [outsAt0_B m c t h0]
    frame_out
    refine (tiles _ _).trans ?_
    rw [← e]
    simp only [read_unread_whole]

/-- The fill of the padded lanes is zero. -/
theorem zero_word {e : FTy} : FloatOps.sitofp (F := Ideal) e 0#32 = (0 : EReal) := by
  show (((0#32 : BitVec 32).toInt : ℝ) : EReal) = 0
  simp

/-- The weights' array has a head's columns in the first half of its lanes, and zeros in the other. -/
theorem w_at (c : Dev nD) (k : Fin 256) (l : Fin 2048) :
    V m c main_v3 (ix2 k l) = if h : l.val % 128 < 64 then
      m ((c.tc : Thread nD τ).loc main_arg2) (ix2 k (⟨l.val / 128 * 64 + l.val % 128, by omega⟩ : Fin 1024)) else (0 : EReal) := by
  unfold V
  after_reads_at
  have hd : l.val / 128 < 16 := by omega
  simp only [hd, true_and]
  by_cases h : l.val % 128 < 64
  · simp only [h, dite_true]
  · simp only [h, dite_false]
    exact zero_word

/-- The reference's values: a head's columns in the first half of its lanes, and zeros in the other. -/
theorem ref_at (x0 : (⟨S32768x1024, .f32⟩ : BufTy).Contents (Elt Ideal)) (x1 : (⟨S256, .f32⟩ : BufTy).Contents (Elt Ideal))
    (x2 : (⟨S256x1024, .f32⟩ : BufTy).Contents (Elt Ideal)) (b : Fin 4) (h : Fin 16) (s : Fin 8192) (l : Fin 128) :
    val_main_v18 (F := Ideal) x0 x1 x2 (ix4 b h s l)
      = if q : l.val < 64 then val_main_v14 (F := Ideal) x0 x1 x2 (ix2 (⟨b.val * 8192 + s.val, by omega⟩ : Fin 32768) (⟨h.val * 64 + l.val, by omega⟩ : Fin 1024))
        else (0 : EReal) := by
  pointwise [val_main_v18, val_main_v17, val_main_v16]
  by_cases h1 : l.val < 64
  · rw [dif_pos h1, dif_pos h1]
    first
      | (rw [val_main_v15_apply]
         refine congrArg (val_main_v14 (F := Ideal) x0 x1 x2) ?_
         blk_ext [])
      | pointwise [val_main_v15]
  · rw [dif_neg h1, dif_neg h1]
    exact zero_word

/-- The rows of latents that a point reads. -/
theorem x0_at (c : Dev nD) (t : Fin cfg0.N) (r : Fin 4096) (k : Fin 256) :
    iblk m c 0 t (ix2 r k) = m ((c.tc : Thread nD τ).loc main_arg0) (ix2 (⟨t.val / 4 * 4096 + r.val, by have : t.val < 32 := t.isLt; omega⟩ : Fin 32768) (⟨512 + k.val, by omega⟩ : Fin 1024)) := by
  blk_point [iblk, V, idx t]

/-- The gain. -/
theorem x1_at (c : Dev nD) (t : Fin cfg0.N) (k : Fin 256) :
    iblk m c 1 t (ix2 0 k) = m ((c.tc : Thread nD τ).loc main_arg1) (ix1 k) := by
  have e : iblk m c 1 t (ix2 0 k) = V m c main_v4 (ix2 (0 : Fin 1) k) := congrArg (V m c main_v4) (by blk_ext [idx t])
  rw [e]
  unfold V
  after_reads_at

/-- The weights that a point reads. -/
theorem x2_at (c : Dev nD) (t : Fin cfg0.N) (k : Fin 256) (l : Fin 512) :
    iblk m c 2 t (ix2 k l) = V m c main_v3 (ix2 k (⟨t.val % 4 * 512 + l.val, by omega⟩ : Fin 2048)) :=
  congrArg (V m c main_v3) (by blk_ext [idx t])

/-- The values that the kernel leaves are the reference's. -/
theorem final (c : Dev nD) : (dats m 0 c).arrAt 3 cfg0.N = refOut m c := by
  refine (dats m 0 c).arrAt_eq_of_covers 3 _ (by decide +kernel) fun t hf y => ?_
  blk_simp
  rw [after0_3, out_at]
  have hN : t.val < 32 := t.isLt
  obtain ⟨h, r, l, rfl⟩ : ∃ (h : Fin 4) (r : Fin 4096) (l : Fin 128), y = ix4 (0 : Fin 1) h r l := ⟨y 1, y 2, y 3, by blk_ext []⟩
  have e : (((View.whole main_v5).slice (win0_3.rect t)).emb (ix4 (0 : Fin 1) h r l))
      = ix4 (⟨t.val / 4 / 2, by omega⟩ : Fin 4) (⟨t.val % 4 * 4 + h.val, by omega⟩ : Fin 16) (⟨t.val / 4 % 2 * 4096 + r.val, by omega⟩ : Fin 8192) l := by blk_ext [idx t]
  refine Eq.trans ?_ (congrArg (refOut m c) e).symm
  unfold refOut
  rw [ref_at]
  have hw : ∀ x : Fin 256, iblk m c 2 t (ix2 x (⟨h.val * 128 + l.val, by omega⟩ : Fin 512)) = if q : l.val < 64 then
      m ((c.tc : Thread nD τ).loc main_arg2) (ix2 x (⟨(t.val % 4 * 4 + h.val) * 64 + l.val, by omega⟩ : Fin 1024)) else (0 : EReal) := fun x => by
    rw [x2_at, w_at]
    by_cases q : l.val < 64
    · rw [dif_pos (show (t.val % 4 * 512 + (h.val * 128 + l.val)) % 128 < 64 by omega), dif_pos q]
      refine congrArg (m ((c.tc : Thread nD τ).loc main_arg2)) (congrArg₂ ix2 rfl (Fin.ext ?_))
      show (t.val % 4 * 512 + (h.val * 128 + l.val)) / 128 * 64 + (t.val % 4 * 512 + (h.val * 128 + l.val)) % 128 = (t.val % 4 * 4 + h.val) * 64 + l.val
      omega
    · rw [dif_neg (show ¬ (t.val % 4 * 512 + (h.val * 128 + l.val)) % 128 < 64 by omega), dif_neg q]
  unfold normed tile
  pointwise [k0_pay1, k0_pay2]
  by_cases h1 : l.val < 64
  · rw [dif_pos h1]
    pointwise [val_main_v0, val_main_v1, val_main_v2, val_main_v3, val_main_v4, val_main_v5, val_main_v6, val_main_v7, val_main_v8, val_main_v9, val_main_v10, val_main_v11, val_main_v12, val_main_v13, val_main_v14, val_main_cst, val_main_cst_0, val_main_cst_1]
    refine congrArg (fun f : Fin 256 → EReal => ∑ x, f x) (funext fun x => ?_)
    refine congrArg₂ (fun a b : EReal => a * b) ?_ ((hw x).trans ((dif_pos h1).trans ?_))
    · simp only [x0_at, x1_at]
      blk_point []
    · blk_point []
  · have hz : ∀ f : Fin 256 → EReal, (∑ x, f x * (iblk m c 2 t (ix2 x (⟨h.val * 128 + l.val, by omega⟩ : Fin 512)) : EReal)) = 0 := fun f =>
      (congrArg (fun f : Fin 256 → EReal => ∑ x, f x) (funext fun x =>
        (congrArg₂ (fun a b : EReal => a * b) rfl ((hw x).trans (dif_neg h1))).trans (mul_zero (M₀ := EReal) _))).trans Finset.sum_const_zero
    rw [dif_neg h1]
    exact hz _

end Cert.Kernel9Ideal.RefValue
-- ==== Proof.Online.lean ====
/- A softmax-weighted sum taken block by block. For scores `s` and weights `w` over the naturals, `top s n`, `den s n`
   and `num s w n` are the largest score, the sum of the exponentials and the weighted sum over the first `n` keys, both
   sums relative to `top s n`. The steps below extend each from `n` keys to `n + b`, as a running rescale does; every
   statement holds for all extended reals, the two infinities included. -/
module

public import Idealize.ShloMosaic.PureOps.Ideal.Laws
public import Mathlib.Data.EReal.Inv

@[expose] public section

noncomputable section

namespace Cert.Online

open Idealize.ShloMosaic

theorem exp_nonneg (x : EReal) : 0 ≤ Ideal.exp x := by
  induction x with
  | bot => simp
  | top => simp
  | coe r => rw [Ideal.exp_coe]; exact EReal.coe_nonneg.mpr (Real.exp_pos r).le

theorem exp_ne_top {x : EReal} (h : x ≠ ⊤) : Ideal.exp x ≠ ⊤ := by
  induction x with
  | bot => simp
  | top => exact absurd rfl h
  | coe r => rw [Ideal.exp_coe]; exact EReal.coe_ne_top _

theorem sub_ne_top {a b : EReal} (h : a ≤ b) : a - b ≠ ⊤ := by
  induction a with
  | bot => rw [EReal.bot_sub]; exact bot_ne_top
  | top => rw [top_le_iff.mp h, EReal.sub_top]; exact bot_ne_top
  | coe r =>
    induction b with
    | bot => exact absurd h (by simp)
    | top => rw [EReal.sub_top]; exact bot_ne_top
    | coe q => rw [← EReal.coe_sub]; exact EReal.coe_ne_top _

/-- Rescaling an exponential from the maximum `a` to the larger maximum `b`. -/
theorem exp_mul_exp {s a b : EReal} (hs : s ≤ a) (h : a ≤ b) :
    Ideal.exp (a - b) * Ideal.exp (s - a) = Ideal.exp (s - b) := by
  induction a with
  | bot => rw [le_bot_iff.mp hs]; simp only [EReal.bot_sub, Ideal.exp_bot, mul_zero]
  | top => rw [top_le_iff.mp h]; simp only [EReal.sub_top, Ideal.exp_bot, mul_zero]
  | coe r =>
    induction b with
    | bot => exact absurd h (by simp)
    | top => simp only [EReal.sub_top, Ideal.exp_bot, zero_mul]
    | coe q =>
      induction s with
      | bot => simp only [EReal.bot_sub, Ideal.exp_bot, mul_zero]
      | top => exact absurd hs (by simp)
      | coe p =>
        rw [← EReal.coe_sub, ← EReal.coe_sub, ← EReal.coe_sub, Ideal.exp_coe, Ideal.exp_coe, Ideal.exp_coe,
          ← EReal.coe_mul, ← Real.exp_add]
        congr 2
        ring

theorem mul_sum {ι : Type} (x : EReal) (h0 : 0 ≤ x) (h1 : x ≠ ⊤) (t : Finset ι) (f : ι → EReal) :
    x * ∑ i ∈ t, f i = ∑ i ∈ t, x * f i := by
  classical
  induction t using Finset.induction_on with
  | empty => simp
  | insert a t ha ih =>
    rw [Finset.sum_insert ha, Finset.sum_insert ha, EReal.left_distrib_of_nonneg_of_ne_top h0 h1, ih]

/-- The largest of the first `n` scores. -/
def top (s : ℕ → EReal) (n : ℕ) : EReal := (Finset.range n).sup s

/-- The sum of the first `n` exponentials, relative to their maximum. -/
def den (s : ℕ → EReal) (n : ℕ) : EReal := ∑ i ∈ Finset.range n, Ideal.exp (s i - top s n)

/-- The weighted sum of the first `n` exponentials, relative to their maximum. -/
def num (s w : ℕ → EReal) (n : ℕ) : EReal := ∑ i ∈ Finset.range n, Ideal.exp (s i - top s n) * w i

theorem top_zero (s : ℕ → EReal) : top s 0 = ⊥ := by simp [top]
theorem den_zero (s : ℕ → EReal) : den s 0 = 0 := by simp [den]
theorem num_zero (s w : ℕ → EReal) : num s w 0 = 0 := by simp [num]

theorem le_top {s : ℕ → EReal} {n i : ℕ} (h : i < n) : s i ≤ top s n := Finset.le_sup (Finset.mem_range.mpr h)

theorem top_mono (s : ℕ → EReal) {n k : ℕ} (h : n ≤ k) : top s n ≤ top s k :=
  Finset.sup_mono (Finset.range_mono h)

/-- A maximum over the lanes of a block, as a maximum over its keys. -/
theorem fold_eq (b : ℕ) (f : ℕ → EReal) :
    Finset.fold max ⊥ (fun c : Fin b => f c.val) Finset.univ = (Finset.range b).sup f := by
  refine le_antisymm ?_ ?_
  · rw [Finset.fold_max_le]
    exact ⟨bot_le, fun c _ => Finset.le_sup (f := f) (Finset.mem_range.mpr c.isLt)⟩
  · refine Finset.sup_le fun i hi => ?_
    rw [Finset.le_fold_max]
    exact Or.inr ⟨⟨i, Finset.mem_range.mp hi⟩, Finset.mem_univ _, le_rfl⟩

theorem top_eq (s : ℕ → EReal) (b : ℕ) : top s b = Finset.fold max ⊥ (fun c : Fin b => s c.val) Finset.univ :=
  (fold_eq b s).symm

theorem top_step (s : ℕ → EReal) (n b : ℕ) :
    top s (n + b) = max (top s n) (Finset.fold max ⊥ (fun c : Fin b => s (n + c.val)) Finset.univ) := by
  rw [fold_eq b fun c => s (n + c)]
  refine le_antisymm (Finset.sup_le fun i hi => ?_) (max_le (top_mono s (Nat.le_add_right n b)) ?_)
  · by_cases h : i < n
    · exact (le_top h).trans (le_max_left _ _)
    · have hi' := Finset.mem_range.mp hi
      have := Finset.le_sup (f := fun c => s (n + c)) (Finset.mem_range.mpr (show i - n < b by omega))
      rw [show n + (i - n) = i by omega] at this
      exact this.trans (le_max_right _ _)
  · exact Finset.sup_le fun i hi => le_top (by have := Finset.mem_range.mp hi; omega)

theorem rescale (s : ℕ → EReal) {n k : ℕ} (h : n ≤ k) (f : ℕ → EReal) :
    Ideal.exp (top s n - top s k) * ∑ i ∈ Finset.range n, Ideal.exp (s i - top s n) * f i =
      ∑ i ∈ Finset.range n, Ideal.exp (s i - top s k) * f i := by
  rw [mul_sum _ (exp_nonneg _) (exp_ne_top (sub_ne_top (top_mono s h)))]
  refine Finset.sum_congr rfl fun i hi => ?_
  rw [← mul_assoc, exp_mul_exp (le_top (Finset.mem_range.mp hi)) (top_mono s h)]

theorem num_step (s w : ℕ → EReal) (n b : ℕ) :
    num s w (n + b) = Ideal.exp (top s n - top s (n + b)) * num s w n +
      ∑ c : Fin b, Ideal.exp (s (n + c.val) - top s (n + b)) * w (n + c.val) := by
  rw [num, num, rescale s (Nat.le_add_right n b), Finset.sum_range_add,
    Fin.sum_univ_eq_sum_range fun c => Ideal.exp (s (n + c) - top s (n + b)) * w (n + c)]

theorem den_eq (s : ℕ → EReal) (n : ℕ) : den s n = num s (fun _ => 1) n := by simp only [den, num, mul_one]

theorem den_step (s : ℕ → EReal) (n b : ℕ) :
    den s (n + b) = Ideal.exp (top s n - top s (n + b)) * den s n +
      ∑ c : Fin b, Ideal.exp (s (n + c.val) - top s (n + b)) := by
  simp only [den_eq, num_step, mul_one]

/-- Keys whose score is `⊥` change nothing. -/
theorem top_tail {s : ℕ → EReal} {n k : ℕ} (hk : n ≤ k) (h : ∀ i, n ≤ i → s i = ⊥) : top s k = top s n :=
  le_antisymm (Finset.sup_le fun i _ => by
    by_cases hi : i < n
    · exact le_top hi
    · rw [h i (by omega)]; exact bot_le) (top_mono s hk)

theorem num_tail {s : ℕ → EReal} (w : ℕ → EReal) {n k : ℕ} (hk : n ≤ k) (h : ∀ i, n ≤ i → s i = ⊥) :
    num s w k = num s w n := by
  rw [num, num, top_tail hk h]
  refine (Finset.sum_subset (Finset.range_mono hk) fun i _ hi => ?_).symm
  rw [h i (by simpa using hi), EReal.bot_sub, Ideal.exp_bot, zero_mul]

theorem den_tail {s : ℕ → EReal} {n k : ℕ} (hk : n ≤ k) (h : ∀ i, n ≤ i → s i = ⊥) : den s k = den s n := by
  rw [den_eq, den_eq, num_tail _ hk h]

/-- A sum of quotients by one positive number is the quotient of the sum. -/
theorem sum_div {ι : Type} (t : Finset ι) (e w : ι → EReal) (d : EReal) (hd : 0 < d) :
    ∑ i ∈ t, Ideal.div (e i) d * w i = Ideal.div (∑ i ∈ t, e i * w i) d := by
  have h0 : (0 : EReal) ≤ d⁻¹ := EReal.inv_nonneg_of_nonneg hd.le
  have h1 : d⁻¹ ≠ ⊤ := by
    induction d with
    | bot => exact absurd hd (by simp)
    | top => simp
    | coe r => rw [← EReal.coe_inv]; exact EReal.coe_ne_top _
  have hdiv : ∀ x, Ideal.div x d = d⁻¹ * x := fun x => by
    rw [mul_comm]; unfold Ideal.div; rw [if_neg hd.ne']
  rw [hdiv, mul_sum _ h0 h1]
  refine Finset.sum_congr rfl fun i _ => ?_
  rw [hdiv, mul_assoc]

/-! ## Comparisons of lane numbers -/

theorem sel {α : Type} (c : BitVec 1) (x y : α) : Scalar.select c x y = if c = 1#1 then x else y := rfl

theorem cmp_le (a b : ℕ) (ha : a < 2 ^ 31) (hb : b < 2 ^ 31) :
    IntOp.cmpi CmpIPredicate.sle (BitVec.ofNat 32 a) (BitVec.ofNat 32 b) = if a ≤ b then 1#1 else 0#1 := by
  have h : (BitVec.ofNat 32 a).sle (BitVec.ofNat 32 b) = decide (a ≤ b) := by
    rw [BitVec.sle_eq_decide, BitVec.toInt_eq_toNat_of_lt (by rw [BitVec.toNat_ofNat]; omega),
      BitVec.toInt_eq_toNat_of_lt (by rw [BitVec.toNat_ofNat]; omega), BitVec.toNat_ofNat, BitVec.toNat_ofNat,
      Nat.mod_eq_of_lt (by omega), Nat.mod_eq_of_lt (by omega)]
    exact decide_eq_decide.mpr Int.ofNat_le
  show BitVec.ofBool ((BitVec.ofNat 32 a).sle (BitVec.ofNat 32 b)) = _
  rw [h]
  by_cases hab : a ≤ b
  · rw [if_pos hab, decide_eq_true hab]; rfl
  · rw [if_neg hab, decide_eq_false hab]; rfl

/-! ## Causal attention of one row -/

/-- The scores of the query at position `r`: a hidden key has score `⊥`. -/
def score (r : ℕ) (q : Fin 128 → EReal) (k : Fin 8192 → Fin 128 → EReal) (c : ℕ) : EReal :=
  if h : c < 8192 then if c ≤ r then (∑ x, q x * k ⟨c, h⟩ x) * Ideal.ofBits .f32 1037108716#32 else ⊥ else ⊥

/-- One column of the values. -/
def value (v : Fin 8192 → EReal) (c : ℕ) : EReal := if h : c < 8192 then v ⟨c, h⟩ else 0

/-- One element of the attention's result. -/
def attn (r : ℕ) (q : Fin 128 → EReal) (k : Fin 8192 → Fin 128 → EReal) (v : Fin 8192 → EReal) : EReal :=
  Ideal.div (num (score r q k) (value v) 8192) (max (den (score r q k) 8192) (Ideal.ofBits .f32 0x0DA24260#32))

theorem score_hidden {r : ℕ} {q : Fin 128 → EReal} {k : Fin 8192 → Fin 128 → EReal} {c : ℕ} (h : r < c) :
    score r q k c = ⊥ := by
  unfold score
  split
  · rw [if_neg (by omega)]
  · rfl

theorem floor_pos : (0 : EReal) < Ideal.ofBits .f32 0x0DA24260#32 := by
  rw [show Ideal.ofBits .f32 0x0DA24260#32 = ((10633824 * (2 ^ 123)⁻¹ : ℝ) : EReal) by
    simp [Ideal.ofBits, Ideal.ieee, -EReal.coe_mul]]
  exact EReal.coe_pos.mpr (by positivity)

end Cert.Online
-- ==== Proof.Tile.lean ====
module

public import proofs.«01_k».proof.Proof.Gen.Kernel4Ideal.Skeleton
public import proofs.«01_k».proof.Proof.Online
public import Idealize.ShloMosaic.Lib.Pointwise
public import Idealize.ShloMosaic.Lib.Pipeline.ValueKit

/-! One tile of the causal attention: what its stored values are, in the running maximum, sum and weighted sum over the
    keys seen so far. `s i` is the row of scores of query `i` (with `⊥` where the key is hidden), `n` the number of keys
    before the tile. The two heads of a pair are computed by two copies of the same lines. -/

@[expose] public section

noncomputable section

namespace Cert.Kernel4Ideal.RefValue

open Cert.Kernel4Ideal Cert.Kernel4Ideal.Gen Idealize.ShloMosaic Idealize.SL.Sem Cert.Online

theorem hidden : Named.named (F := Ideal) κ "mask" (φ := .f32) 0xF149F2CA#32 = (⊥ : EReal) :=
  IdealRules.named_const.ideal_named_scalar _ _ _ _ rfl

theorem lane_lt (l : Fin 128) : IntOp.cmpi CmpIPredicate.slt (BitVec.ofNat 32 l.val) 64#32 = if l.val < 64 then 1#1 else 0#1 := by
  revert l; decide

theorem lane_ge (l : Fin 128) : IntOp.cmpi CmpIPredicate.sge (BitVec.ofNat 32 l.val) 64#32 = if l.val < 64 then 0#1 else 1#1 := by
  revert l; decide

/-- The causal mask of query tile `a` and key tile `b`. -/
theorem mask_at (a b : ℕ) (ha : a < 16) (hb : b < 16) (i j : Fin 512) :
    k0_pay9 (Scalar.muli (BitVec.ofNat 32 a) 512#32) (Scalar.muli (BitVec.ofNat 32 b) 512#32) (ix2 i j) =
      if b * 512 + j.val ≤ a * 512 + i.val then 1#1 else 0#1 := by
  pointwise [k0_pay9]
  have e : ∀ n : ℕ, ∀ k : ℕ, IntOp.addi (Scalar.muli (BitVec.ofNat 32 n) 512#32) (BitVec.ofNat 32 k) =
      BitVec.ofNat 32 (n * 512 + k) := fun n k => by
    rw [BitVec.ofNat_add, BitVec.ofNat_mul]; rfl
  rw [e, e, cmp_le _ _ (by omega) (by omega)]

/-! ## The first head -/

theorem score0 (v0 v1 : BitVec 32) (x0 x1 : Vec Ideal S1x1x512x128 .bf16) (i j : Fin 512) :
    k0_pay13 v0 v1 x0 x1 (ix2 i j) = if k0_pay9 v0 v1 (ix2 i j) = 1#1 then
      (∑ x, x0 (ix4 0 0 i x) * x1 (ix4 0 0 j x)) * Ideal.ofBits .f32 1037108716#32 else ⊥ := by
  pointwise [k0_pay13]
  rw [hidden]
  rfl

section Head0

variable {v0 v1 : BitVec 32} {x0 x1 : Vec Ideal S1x1x512x128 .bf16} {xm xl : Vec Ideal S1x512x128 .f32}
  {s : Fin 512 → ℕ → EReal} {n : ℕ} (hs : ∀ i j, k0_pay13 v0 v1 x0 x1 (ix2 i j) = s i (n + j.val))
  (hm : ∀ i j, k0_pay9 v0 v1 (ix2 i j) = 1#1 ∨ s i (n + j.val) = ⊥) (hx : ∀ i l, xm (ix3 0 i l) = top (s i) n)

include hs hx in
theorem top0 (i : Fin 512) (l : Fin 128) : k0_pay15 v0 v1 x0 x1 xm (ix2 i l) = top (s i) (n + 512) := by
  unfold k0_pay15
  revert hs
  generalize k0_pay13 v0 v1 x0 x1 = y
  intro hs
  pointwise [k0_pay14]
  rw [hx, top_step]
  simp only [hs]
  rfl

include hs hx in
theorem rate0 (i : Fin 512) (l : Fin 128) :
    k0_pay16 v0 v1 x0 x1 xm (ix2 i l) = Ideal.exp (top (s i) n - top (s i) (n + 512)) := by
  unfold k0_pay16
  have h := top0 hs hx
  revert h
  generalize k0_pay15 v0 v1 x0 x1 xm = y
  intro h
  pointwise [k0_pay14]
  rw [hx, h]

include hs hm hx in
theorem part0 (i j : Fin 512) :
    k0_pay17 v0 v1 x0 x1 xm (ix2 i j) = Ideal.exp (s i (n + j.val) - top (s i) (n + 512)) := by
  unfold k0_pay17
  have h := top0 hs hx
  revert h hs
  generalize k0_pay15 v0 v1 x0 x1 xm = z
  generalize k0_pay13 v0 v1 x0 x1 = y
  intro hs h
  pointwise []
  simp only [h, hs, dite_eq_ite, ite_self, sel]
  rcases hm i j with h1 | h1
  · rw [if_pos h1]
  · rw [h1, EReal.bot_sub, Ideal.exp_bot, ite_self]

include hs hm hx in
theorem den0 (hl : ∀ i l, xl (ix3 0 i l) = den (s i) n) (z : Fin 1) (i : Fin 512) (l : Fin 128) :
    k0_pay18 (k0_pay16 v0 v1 x0 x1 xm) (k0_pay17 v0 v1 x0 x1 xm) xl (ix3 z i l) = den (s i) (n + 512) := by
  have h := rate0 hs hx
  have h' := part0 hs hm hx
  revert h h'
  generalize k0_pay16 v0 v1 x0 x1 xm = y
  generalize k0_pay17 v0 v1 x0 x1 xm = y'
  intro h h'
  pointwise [k0_pay18]
  rw [h, hl, den_step]
  simp only [h']

include hs hx in
theorem keep0 (z : Fin 1) (i : Fin 512) (l : Fin 128) :
    k0_pay19 (k0_pay15 v0 v1 x0 x1 xm) (ix3 z i l) = top (s i) (n + 512) := by
  have h := top0 hs hx
  revert h
  generalize k0_pay15 v0 v1 x0 x1 xm = y
  intro h
  pointwise [k0_pay19]
  exact h i l

include hs hm hx in
theorem add0 {xv : Vec Ideal S512x128 .bf16} {w : ℕ → ℕ → EReal} (hv : ∀ j l, xv (ix2 j l) = w l.val (n + j.val))
    (i : Fin 512) (l : Fin 128) :
    k0_pay20 (k0_pay11 xv) (k0_pay17 v0 v1 x0 x1 xm) (ix2 i l) = if l.val < 64 then
      ∑ j : Fin 512, Ideal.exp (s i (n + j.val) - top (s i) (n + 512)) * w l.val (n + j.val) else 0 := by
  have h := part0 hs hm hx
  revert h
  generalize k0_pay17 v0 v1 x0 x1 xm = y
  intro h
  pointwise [k0_pay20, k0_pay11, k0_pay10]
  by_cases hl : l.val < 64
  · simp only [lane_lt, sel, if_pos hl, if_pos, h, hv]
  · simp only [lane_lt, sel, if_neg hl, show (0#1 : BitVec 1) ≠ 1#1 by decide, if_false, Finset.sum_const_zero]

end Head0

/-! ## The second head -/

theorem score1 (v : IVec S512x512 1) (x0 x1 : Vec Ideal S1x1x512x128 .bf16) (i j : Fin 512) :
    k0_pay21 v x0 x1 (ix2 i j) = if v (ix2 i j) = 1#1 then
      (∑ x, x0 (ix4 0 0 i x) * x1 (ix4 0 0 j x)) * Ideal.ofBits .f32 1037108716#32 else ⊥ := by
  pointwise [k0_pay21]
  rw [hidden]
  rfl

section Head1

variable {v : IVec S512x512 1} {x0 x1 : Vec Ideal S1x1x512x128 .bf16} {xm xl : Vec Ideal S1x512x128 .f32}
  {s : Fin 512 → ℕ → EReal} {n : ℕ} (hs : ∀ i j, k0_pay21 v x0 x1 (ix2 i j) = s i (n + j.val))
  (hm : ∀ i j, v (ix2 i j) = 1#1 ∨ s i (n + j.val) = ⊥) (hx : ∀ i l, xm (ix3 0 i l) = top (s i) n)

include hs hx in
theorem top1 (i : Fin 512) (l : Fin 128) : k0_pay23 v x0 x1 xm (ix2 i l) = top (s i) (n + 512) := by
  unfold k0_pay23
  revert hs
  generalize k0_pay21 v x0 x1 = y
  intro hs
  pointwise [k0_pay22]
  rw [hx, top_step]
  simp only [hs]
  rfl

include hs hx in
theorem rate1 (i : Fin 512) (l : Fin 128) :
    k0_pay24 v x0 x1 xm (ix2 i l) = Ideal.exp (top (s i) n - top (s i) (n + 512)) := by
  unfold k0_pay24
  have h := top1 hs hx
  revert h
  generalize k0_pay23 v x0 x1 xm = y
  intro h
  pointwise [k0_pay22]
  rw [hx, h]

include hs hm hx in
theorem part1 (i j : Fin 512) :
    k0_pay4 v (k0_pay21 v x0 x1) (k0_pay25 v x0 x1 xm) (ix2 i j) =
      Ideal.exp (s i (n + j.val) - top (s i) (n + 512)) := by
  unfold k0_pay25
  have h := top1 hs hx
  revert h hs
  generalize k0_pay23 v x0 x1 xm = z
  generalize k0_pay21 v x0 x1 = y
  intro hs h
  pointwise [k0_pay4]
  simp only [h, hs, dite_eq_ite, ite_self, sel]
  rcases hm i j with h1 | h1
  · rw [if_pos h1]
  · rw [h1, EReal.bot_sub, Ideal.exp_bot, ite_self]

include hs hm hx in
theorem den1 (hl : ∀ i l, xl (ix3 0 i l) = den (s i) n) (z : Fin 1) (i : Fin 512) (l : Fin 128) :
    k0_pay5 v (k0_pay21 v x0 x1) (k0_pay24 v x0 x1 xm) (k0_pay25 v x0 x1 xm) xl (ix3 z i l) = den (s i) (n + 512) := by
  unfold k0_pay5
  have h := rate1 hs hx
  have h' := part1 hs hm hx
  revert h h'
  generalize k0_pay4 v (k0_pay21 v x0 x1) (k0_pay25 v x0 x1 xm) = y'
  generalize k0_pay24 v x0 x1 xm = y
  intro h h'
  pointwise []
  rw [h, hl, den_step]
  simp only [h']

include hs hx in
theorem keep1 (z : Fin 1) (i : Fin 512) (l : Fin 128) :
    k0_pay6 (k0_pay23 v x0 x1 xm) (ix3 z i l) = top (s i) (n + 512) := by
  have h := top1 hs hx
  revert h
  generalize k0_pay23 v x0 x1 xm = y
  intro h
  pointwise [k0_pay6]
  exact h i l

end Head1

/-- The weighted sum of both heads: the lower lanes belong to the first, the upper lanes to the second. -/
theorem acc_at {v0 v1 : BitVec 32} {v : IVec S512x512 1} {x0 x1 y0 y1 : Vec Ideal S1x1x512x128 .bf16}
    {xm ym : Vec Ideal S1x512x128 .f32} {xa : Vec Ideal S512x128 .f32} {xv : Vec Ideal S512x128 .bf16}
    {s s' : Fin 512 → ℕ → EReal} {w : ℕ → ℕ → EReal} {n : ℕ}
    (hs : ∀ i j, k0_pay13 v0 v1 x0 x1 (ix2 i j) = s i (n + j.val))
    (hm : ∀ i j, k0_pay9 v0 v1 (ix2 i j) = 1#1 ∨ s i (n + j.val) = ⊥) (hx : ∀ i l, xm (ix3 0 i l) = top (s i) n)
    (hs' : ∀ i j, k0_pay21 v y0 y1 (ix2 i j) = s' i (n + j.val))
    (hm' : ∀ i j, v (ix2 i j) = 1#1 ∨ s' i (n + j.val) = ⊥) (hx' : ∀ i l, ym (ix3 0 i l) = top (s' i) n)
    (hv : ∀ j l, xv (ix2 j l) = w l.val (n + j.val))
    (ha : ∀ i l, xa (ix2 i l) = num (if l.val < 64 then s i else s' i) (w l.val) n) (i : Fin 512) (l : Fin 128) :
    k0_pay7 v (k0_pay12 xv) (k0_pay16 v0 v1 x0 x1 xm) (k0_pay20 (k0_pay11 xv) (k0_pay17 v0 v1 x0 x1 xm))
      (k0_pay21 v y0 y1) (k0_pay24 v y0 y1 ym) (k0_pay25 v y0 y1 ym) xa (ix2 i l) =
      num (if l.val < 64 then s i else s' i) (w l.val) (n + 512) := by
  unfold k0_pay7
  have h0 := rate0 hs hx
  have h1 := rate1 hs' hx'
  have h2 := add0 hs hm hx hv
  have h3 := part1 hs' hm' hx'
  revert h0 h1 h2 h3
  generalize k0_pay4 v (k0_pay21 v y0 y1) (k0_pay25 v y0 y1 ym) = z3
  generalize k0_pay20 (k0_pay11 xv) (k0_pay17 v0 v1 x0 x1 xm) = z2
  generalize k0_pay24 v y0 y1 ym = z1
  generalize k0_pay16 v0 v1 x0 x1 xm = z0
  intro h0 h1 h2 h3
  pointwise [k0_pay12, k0_pay10]
  rw [ha, h2, num_step]
  by_cases hl : l.val < 64
  · simp only [lane_lt, lane_ge, sel, if_pos hl, if_pos, h0, show (0#1 : BitVec 1) ≠ 1#1 by decide, if_false,
      Finset.sum_const_zero, add_zero]
    rw [mul_comm]
  · simp only [lane_lt, lane_ge, sel, if_neg hl, if_pos, h1, h3, hv, show (0#1 : BitVec 1) ≠ 1#1 by decide, if_false, if_true,
      add_zero]
    rw [mul_comm]

/-- The last point's quotient. -/
theorem quot_at (x0 x1 : Vec Ideal S1x512x128 .f32) (xa : Vec Ideal S512x128 .f32) (i : Fin 512) (l : Fin 128) :
    k0_pay8 x0 x1 xa (ix2 i l) = Ideal.div (xa (ix2 i l))
      (max (if l.val < 64 then x0 (ix3 0 i l) else x1 (ix3 0 i l)) (Ideal.ofBits .f32 0x0DA24260#32)) := by
  pointwise [k0_pay8]
  by_cases hl : l.val < 64
  · simp only [lane_lt, sel, if_pos hl, if_pos]
  · simp only [lane_lt, sel, if_neg hl, show (0#1 : BitVec 1) ≠ 1#1 by decide, if_false]

end Cert.Kernel4Ideal.RefValue
-- ==== Proof.Hold.lean ====
module

public import proofs.«01_k».proof.Proof.Tile
public import Idealize.ShloMosaic.Lib.Pointwise
public import Idealize.ShloMosaic.Lib.Pipeline.ValueKit

/-! What the attention kernel's scratch arrays hold: the running maximum, sum and weighted sum of the keys seen so far. -/

@[expose] public section

noncomputable section

namespace Cert.Kernel4Ideal.RefValue

open Cert.Kernel4Ideal Cert.Kernel4Ideal.Gen Idealize.ShloMosaic Idealize.SL.Sem Cert.Online

/-! ## The two halves of a scratch array -/

theorem half_zero (p1 p0 : Vec Ideal S1x512x128 .f32) (L : List (View.Piece (Elt Ideal) S2x512x128 .f32)) (r : Fin 512) (l : Fin 128) :
    View.canon (⟨Rect.unit ![1, 0, 0] ![1, 512, 128] inb_S2x512x128_S1x512x128_1_0_0, p1⟩ ::
      ⟨Rect.unit ![0, 0, 0] ![1, 512, 128] inb_S2x512x128_S1x512x128_0_0_0, p0⟩ :: L) (ix3 0 r l) = p0 (ix3 0 r l) := by
  rw [View.canon_cons_of_not_mem]
  · have e : (ix3 0 r l : S2x512x128.Idx) =
        (Rect.unit (s := S2x512x128) ![0, 0, 0] ![1, 512, 128] inb_S2x512x128_S1x512x128_0_0_0).emb (ix3 0 r l) := by
      blk_ext []
    rw [e, View.canon_cons_emb]
  · intro h
    have h0 := ((Rect.mem_set_unit (inb := inb_S2x512x128_S1x512x128_1_0_0)).mp h (0 : Fin 3)).1
    change 1 ≤ 0 at h0
    omega

theorem half_one (p1 : Vec Ideal S1x512x128 .f32) (L : List (View.Piece (Elt Ideal) S2x512x128 .f32)) (r : Fin 512) (l : Fin 128) :
    View.canon (⟨Rect.unit ![1, 0, 0] ![1, 512, 128] inb_S2x512x128_S1x512x128_1_0_0, p1⟩ :: L) (ix3 1 r l) = p1 (ix3 0 r l) := by
  have e : (ix3 1 r l : S2x512x128.Idx) =
      (Rect.unit (s := S2x512x128) ![1, 0, 0] ![1, 512, 128] inb_S2x512x128_S1x512x128_1_0_0).emb (ix3 0 r l) := by
    blk_ext []
  rw [e, View.canon_cons_emb]

theorem ld_zero (x : Vec Ideal S2x512x128 .f32) (r : Fin 512) (l : Fin 128) :
    View.ld x (Rect.unit ![0, 0, 0] ![1, 512, 128] inb_S2x512x128_S1x512x128_0_0_0) (ix3 0 r l) = x (ix3 0 r l) := by
  exact View.ld_unit_apply_of _ _ _ _ _ _ fun a => by fin_cases a <;> simp [ix3]

theorem ld_one (x : Vec Ideal S2x512x128 .f32) (r : Fin 512) (l : Fin 128) :
    View.ld x (Rect.unit ![1, 0, 0] ![1, 512, 128] inb_S2x512x128_S1x512x128_1_0_0) (ix3 0 r l) = x (ix3 1 r l) := by
  exact View.ld_unit_apply_of _ _ _ _ _ _ fun a => by fin_cases a <;> simp [ix3]

/-! ## What the scratch arrays hold -/

/-- The scratch arrays hold the running values of the two heads' score rows `s` and `s'` over the first `n` keys. -/
structure Holds (s s' : Fin 512 → ℕ → EReal) (w : ℕ → ℕ → EReal) (n : ℕ) (xm xl : Vec Ideal S2x512x128 .f32)
    (xa : Vec Ideal S512x128 .f32) : Prop where
  m0 : ∀ r l, xm (ix3 0 r l) = top (s r) n
  m1 : ∀ r l, xm (ix3 1 r l) = top (s' r) n
  l0 : ∀ r l, xl (ix3 0 r l) = den (s r) n
  l1 : ∀ r l, xl (ix3 1 r l) = den (s' r) n
  acc : ∀ r l, xa (ix2 r l) = num (if l.val < 64 then s r else s' r) (w l.val) n

theorem fresh (s s' : Fin 512 → ℕ → EReal) (w : ℕ → ℕ → EReal) : Holds s s' w 0 (k0_pay1 (F := Ideal)) (k0_pay2 (F := Ideal)) (k0_pay3 (F := Ideal)) := by
  constructor <;> intro r l
  · pointwise [k0_pay1]; rw [hidden, top_zero]
  · pointwise [k0_pay1]; rw [hidden, top_zero]
  · pointwise [k0_pay2]; rw [den_zero]
  · pointwise [k0_pay2]; rw [den_zero]
  · pointwise [k0_pay3]; rw [num_zero]

end Cert.Kernel4Ideal.RefValue

end
-- ==== Proof.Grid.lean ====
module

public import proofs.«01_k».proof.Proof.Gen.Kernel4Ideal.Value
public import proofs.«01_k».proof.Proof.Online
public import Idealize.ShloMosaic.Lib.Pointwise
public import Idealize.ShloMosaic.Lib.Pipeline.ValueKit

/-! Where the blocks of the attention kernel stand in its arrays. -/

@[expose] public section

noncomputable section

namespace Cert.Kernel4Ideal.RefValue

open Cert.Kernel4Ideal Cert.Kernel4Ideal.Gen Idealize.ShloMosaic Idealize.SL.Sem Cert.Online

/-! ## The grid -/

theorem idx : ∀ t : Fin cfg0.N,
    win0_0.index t = ![t.val / 2048, t.val / 256 % 8, t.val / 16 % 16, 0]
      ∧ win0_1.index t = ![t.val / 2048, t.val / 256 % 8, min (t.val % 16) (t.val / 16 % 16), 0]
      ∧ win0_2.index t = ![t.val / 2048 * 16 + min (t.val % 16) (t.val / 16 % 16), t.val / 256 % 8]
      ∧ win0_3.index t = ![t.val / 2048 * 16 + t.val / 16 % 16, t.val / 256 % 8] := by
  decide +kernel

theorem crd : ∀ t : Fin cfg0.N, (grid0.coords t 2).val = t.val / 16 % 16 ∧ (grid0.coords t 3).val = t.val % 16 := by
  decide +kernel

variable (m : (ℓ : Loc nD τ sig) → Buf (Elt Ideal) ℓ)

/-- The scores of row `r` of query tile `u`, in head `a` of its pair. -/
def srow (c : Dev nD) (u : Fin 512) (a : Fin 2) (r : Fin 512) : ℕ → EReal :=
  score (u.val % 16 * 512 + r.val)
    (fun x => m ((c.tc : Thread nD τ).loc main_arg0)
      (ix4 ⟨u.val / 128, by omega⟩ ⟨u.val / 16 % 8 * 2 + a.val, by omega⟩ ⟨u.val % 16 * 512 + r.val, by omega⟩ x))
    (fun k x => m ((c.tc : Thread nD τ).loc main_arg1)
      (ix4 ⟨u.val / 128, by omega⟩ ⟨u.val / 16 % 8 * 2 + a.val, by omega⟩ k x))

/-- The values' column `l` of the pair. -/
def wcol (c : Dev nD) (u : Fin 512) (l : ℕ) : ℕ → EReal :=
  value fun k => m ((c.tc : Thread nD τ).loc main_arg2)
    (ix2 ⟨u.val / 128 * 8192 + k.val, by omega⟩ ⟨(u.val / 16 % 8 * 128 + l) % 1024, by omega⟩)

/-- The query tile of a grid point. -/
def tile (t : Fin cfg0.N) : Fin 512 := ⟨t.val / 16, by have h : t.val < 8192 := t.isLt; omega⟩

theorem q_at0 (c : Dev nD) (t : Fin cfg0.N) (i : Fin 512) (x : Fin 128) :
    View.ld (iblk m c 0 t) (Rect.unit ![0, 0, 0, 0] ![1, 1, 512, 128] inb_S1x2x512x128_S1x1x512x128_0_0_0_0) (ix4 0 0 i x) =
      m ((c.tc : Thread nD τ).loc main_arg0) (ix4 ⟨(tile t).val / 128, by omega⟩ ⟨(tile t).val / 16 % 8 * 2 + (0 : Fin 2).val, by omega⟩
        ⟨(tile t).val % 16 * 512 + i.val, by omega⟩ x) := by
  have ht : t.val < 8192 := t.isLt
  blk_point [iblk, V, idx t, tile]

theorem q_at1 (c : Dev nD) (t : Fin cfg0.N) (i : Fin 512) (x : Fin 128) :
    View.ld (iblk m c 0 t) (Rect.unit ![0, 1, 0, 0] ![1, 1, 512, 128] inb_S1x2x512x128_S1x1x512x128_0_1_0_0) (ix4 0 0 i x) =
      m ((c.tc : Thread nD τ).loc main_arg0) (ix4 ⟨(tile t).val / 128, by omega⟩ ⟨(tile t).val / 16 % 8 * 2 + (1 : Fin 2).val, by omega⟩
        ⟨(tile t).val % 16 * 512 + i.val, by omega⟩ x) := by
  have ht : t.val < 8192 := t.isLt
  blk_point [iblk, V, idx t, tile]

theorem k_at0 (c : Dev nD) (t : Fin cfg0.N) (h : t.val % 16 ≤ t.val / 16 % 16) (j : Fin 512) (x : Fin 128) :
    View.ld (iblk m c 1 t) (Rect.unit ![0, 0, 0, 0] ![1, 1, 512, 128] inb_S1x2x512x128_S1x1x512x128_0_0_0_0) (ix4 0 0 j x) =
      m ((c.tc : Thread nD τ).loc main_arg1) (ix4 ⟨(tile t).val / 128, by omega⟩ ⟨(tile t).val / 16 % 8 * 2 + (0 : Fin 2).val, by omega⟩
        ⟨t.val % 16 * 512 + j.val, by omega⟩ x) := by
  have ht : t.val < 8192 := t.isLt
  have hi := idx t
  rw [min_eq_left h] at hi
  blk_point [iblk, V, hi, tile]

theorem k_at1 (c : Dev nD) (t : Fin cfg0.N) (h : t.val % 16 ≤ t.val / 16 % 16) (j : Fin 512) (x : Fin 128) :
    View.ld (iblk m c 1 t) (Rect.unit ![0, 1, 0, 0] ![1, 1, 512, 128] inb_S1x2x512x128_S1x1x512x128_0_1_0_0) (ix4 0 0 j x) =
      m ((c.tc : Thread nD τ).loc main_arg1) (ix4 ⟨(tile t).val / 128, by omega⟩ ⟨(tile t).val / 16 % 8 * 2 + (1 : Fin 2).val, by omega⟩
        ⟨t.val % 16 * 512 + j.val, by omega⟩ x) := by
  have ht : t.val < 8192 := t.isLt
  have hi := idx t
  rw [min_eq_left h] at hi
  blk_point [iblk, V, hi, tile]

theorem v_at (c : Dev nD) (t : Fin cfg0.N) (h : t.val % 16 ≤ t.val / 16 % 16) (j : Fin 512) (l : Fin 128) :
    iblk m c 2 t (ix2 j l) = wcol m c (tile t) l.val (t.val % 16 * 512 + j.val) := by
  have ht : t.val < 8192 := t.isLt
  have hi := idx t
  rw [min_eq_left h] at hi
  rw [wcol, value, dif_pos (by omega)]
  blk_ext [iblk, V, hi, tile]

end Cert.Kernel4Ideal.RefValue

end
-- ==== Proof.Ref.lean ====
module

public import proofs.«01_k».proof.Proof.Gen.Reference4Ideal.Read
public import proofs.«01_k».proof.Proof.Online
public import Idealize.ShloMosaic.Lib.Pointwise
public import Idealize.ShloMosaic.Lib.Pipeline.ValueKit

/-! The reference's causal attention, read at an element. -/

@[expose] public section

noncomputable section

namespace Cert.Reference4Ideal.RefValue

open Cert.Reference4Ideal Cert.Reference4Ideal.Gen Cert.Reference4Ideal.Read Idealize.ShloMosaic Idealize.SL.Sem Cert.Online

variable (q k : (⟨S4x16x8192x128, .bf16⟩ : BufTy).Contents (Elt Ideal)) (v : (⟨S32768x1024, .bf16⟩ : BufTy).Contents (Elt Ideal))

/-- The row of scores of one query. -/
abbrev row (b : Fin 4) (h : Fin 16) (r : Fin 8192) : ℕ → EReal :=
  score r.val (fun x => q (ix4 b h r x)) (fun c x => k (ix4 b h c x))

theorem mask_at (r c : Fin 8192) : val_main_v12 (F := Ideal) (ix2 r c) = if c.val ≤ r.val then 1#1 else 0#1 := by
  pointwise [val_main_v12_apply, val_main_v10_apply, val_main_v11_apply, val_main_v8_apply, val_main_v9_apply, val_main_v4_apply]
  exact cmp_le _ _ (by omega) (by omega)

theorem scores_at (b : Fin 4) (h : Fin 16) (r c : Fin 8192) :
    val_main_v13 (F := Ideal) q k (ix4 b h r c) = row q k b h r c.val := by
  have e : val_main_call0_v1 (F := Ideal) (ix4 b h r c) = val_main_v12 (F := Ideal) (ix2 r c) := by
    rw [val_main_call0_v1_apply]
    congr 1
    blk_ext []
  rw [val_main_v13_apply, e, mask_at, val_main_v7_apply, val_main_v5_apply, val_main_v6_apply, val_main_call0_v2_apply]
  unfold row score
  rw [dif_pos c.isLt]
  by_cases hc : c.val ≤ r.val
  · rw [if_pos hc, if_pos hc]
    show (∑ x, _) * _ = (∑ x, _) * _
    congr 1
    refine Finset.sum_congr rfl fun x _ => ?_
    rw [val_main_v0_apply, val_main_v1_apply]
    congr 2 <;> blk_ext []
  · rw [if_neg hc, if_neg hc]
    rfl

theorem max_at (y : FVec Ideal S4x16x8192x8192 .f32) (z : FVec Ideal S_ .f32) (b : Fin 4) (h : Fin 16) (r : Fin 8192) :
    Host.reduce (FloatOps.maximumf (F := Ideal) (φ := .f32)) y z reducesTo_S4x16x8192x8192_S4x16x8192_d3 h_S_ (ix3 b h r)
      = Finset.fold max (z (Shape.Idx.first h_S_)) (fun j : Fin 8192 => y (ix4 b h r j)) Finset.univ := by
  pointwise []

theorem top_at (b : Fin 4) (h : Fin 16) (r : Fin 8192) :
    val_main_v14 (F := Ideal) q k (ix3 b h r) = top (row q k b h r) 8192 := by
  unfold val_main_v14
  rw [max_at, top_eq]
  simp only [scores_at]
  rfl

theorem exp_at (b : Fin 4) (h : Fin 16) (r c : Fin 8192) :
    val_main_v19 (F := Ideal) q k (ix4 b h r c) = Ideal.exp (row q k b h r c.val - top (row q k b h r) 8192) := by
  have e : val_main_call1_v1 (F := Ideal) (ix4 b h r c) = val_main_v12 (F := Ideal) (ix2 r c) := by
    rw [val_main_call1_v1_apply]
    congr 1
    blk_ext []
  have e' : val_main_v16 (F := Ideal) q k (ix4 b h r c) = top (row q k b h r) 8192 := by
    rw [val_main_v16_apply, val_main_v15_apply, ← top_at]
    congr 1
    blk_ext []
  rw [val_main_v19_apply, e, mask_at, val_main_v18_apply, val_main_v17_apply, e', scores_at, val_main_call1_v2_apply]
  by_cases hc : c.val ≤ r.val
  · rw [if_pos hc]
    rfl
  · rw [if_neg hc, show row q k b h r c.val = ⊥ from score_hidden (by omega), EReal.bot_sub, Ideal.exp_bot]
    exact Ideal.ofBits_zero_f32

theorem sum_at (b : Fin 4) (h : Fin 16) (r : Fin 8192) :
    val_main_v20 (F := Ideal) q k (ix3 b h r) = den (row q k b h r) 8192 := by
  rw [val_main_v20_apply]
  have e : ∀ c : Fin 8192, val_main_v19 (F := Ideal) q k (idx_main_v20 (ix3 b h r) c) =
      Ideal.exp (row q k b h r c.val - top (row q k b h r) 8192) := fun c => by
    rw [← exp_at]
    congr 1
    blk_ext []
  simp only [e]
  rw [Fin.sum_univ_eq_sum_range fun c => Ideal.exp (row q k b h r c - top (row q k b h r) 8192)]
  refine (congrArg (· + den (row q k b h r) 8192) (?_ : _ = (0 : EReal))).trans (zero_add _)
  exact Ideal.ofBits_zero_f32

theorem weight_at (b : Fin 4) (h : Fin 16) (r c : Fin 8192) :
    val_main_v25 (F := Ideal) q k (ix4 b h r c) = Ideal.div (Ideal.exp (row q k b h r c.val - top (row q k b h r) 8192))
      (max (den (row q k b h r) 8192) (Ideal.ofBits .f32 0x0DA24260#32)) := by
  have e : val_main_v24 (F := Ideal) q k (ix4 b h r c) =
      max (den (row q k b h r) 8192) (Ideal.ofBits .f32 0x0DA24260#32) := by
    have e0 : idx_main_v21 (idx_main_v24 (ix4 b h r c)) = ix3 b h r := by blk_ext []
    rw [val_main_v24_apply, val_main_v23_apply, val_main_v21_apply, e0, sum_at]
    rfl
  rw [val_main_v25_apply, exp_at, e]
  rfl

/-- The reference's result at position `r` of batch `b`, lane `d` of head `h`. -/
theorem ref_at (b : Fin 4) (r : Fin 8192) (h : Fin 16) (d : Fin 64) :
    val_main_v29 (F := Ideal) q k v (ix2 ⟨b.val * 8192 + r.val, by omega⟩ ⟨h.val * 64 + d.val, by omega⟩) =
      attn r.val (fun x => q (ix4 b h r x)) (fun c x => k (ix4 b h c x))
        (fun c => v (ix2 ⟨b.val * 8192 + c.val, by omega⟩ ⟨h.val * 64 + d.val, by omega⟩)) := by
  have e : val_main_v29 (F := Ideal) q k v (ix2 ⟨b.val * 8192 + r.val, by omega⟩ ⟨h.val * 64 + d.val, by omega⟩) =
      val_main_v26 (F := Ideal) q k v (ix4 b h d r) := by
    rw [val_main_v29_apply, val_main_v28_apply, val_main_v27_apply]
    refine congrArg (val_main_v26 (F := Ideal) q k v) ?_
    blk_ext []
  rw [e, val_main_v26_apply, attn, num, ← sum_div _ _ _ _ (lt_max_of_lt_right floor_pos),
    ← Fin.sum_univ_eq_sum_range fun c => Ideal.div (Ideal.exp (row q k b h r c - top (row q k b h r) 8192))
      (max (den (row q k b h r) 8192) (Ideal.ofBits .f32 0x0DA24260#32)) *
      value (fun c => v (ix2 ⟨b.val * 8192 + c.val, by omega⟩ ⟨h.val * 64 + d.val, by omega⟩)) c]
  refine Finset.sum_congr rfl fun c _ => ?_
  have e1 : val_main_v25 (F := Ideal) q k (ridx_main_v26 (ix4 b h d r) c) = val_main_v25 (F := Ideal) q k (ix4 b h r c) := by
    refine congrArg (val_main_v25 (F := Ideal) q k) ?_
    blk_ext []
  have e2 : val_main_v3 (F := Ideal) v (lidx_main_v26 (ix4 b h d r) c) =
      v (ix2 ⟨b.val * 8192 + c.val, by omega⟩ ⟨h.val * 64 + d.val, by omega⟩) := by
    rw [val_main_v3_apply, val_main_v2_apply]
    refine congrArg v ?_
    blk_ext []
  rw [e1, e2, weight_at, mul_comm, value, dif_pos c.isLt]

end Cert.Reference4Ideal.RefValue
-- ==== Proof.Attn.lean ====
module

public import proofs.«01_k».proof.Proof.Gen.Kernel4Ideal.Value
public import proofs.«01_k».proof.Proof.Tile
public import proofs.«01_k».proof.Proof.Hold
public import proofs.«01_k».proof.Proof.Grid
public import proofs.«01_k».proof.Proof.Ref
public import Idealize.ShloMosaic.Lib.Pointwise
public import Idealize.ShloMosaic.Lib.Pipeline.ValueKit
public import Idealize.ShloMosaic.Lib.Pipeline.ReadBack
public import Idealize.ShloMosaic.Lib.Pipeline.Covers

/-! The causal attention kernel: after each grid point its scratch arrays hold the running maximum, sum and weighted sum of
    the keys seen so far, and the array it leaves is the reference's result. -/

@[expose] public section

noncomputable section

namespace Cert.Kernel4Ideal.RefValue

open Cert.Kernel4Ideal Cert.Kernel4Ideal.Gen Idealize.ShloMosaic Idealize.SL.Sem Cert.Online

variable (m : (ℓ : Loc nD τ sig) → Buf (Elt Ideal) ℓ)

/-! ## The scores of one tile -/

theorem row_at (c : Dev nD) (u : Fin 512) (a : Fin 2) (r : Fin 512) (k : ℕ) (hk : k < 8192) :
    srow m c u a r k = if k ≤ u.val % 16 * 512 + r.val then
      (∑ x, HMul.hMul (α := EReal) (β := EReal) (γ := EReal) (m ((c.tc : Thread nD τ).loc main_arg0)
          (ix4 ⟨u.val / 128, by omega⟩ ⟨u.val / 16 % 8 * 2 + a.val, by omega⟩ ⟨u.val % 16 * 512 + r.val, by omega⟩ x))
        (m ((c.tc : Thread nD τ).loc main_arg1)
          (ix4 ⟨u.val / 128, by omega⟩ ⟨u.val / 16 % 8 * 2 + a.val, by omega⟩ ⟨k, hk⟩ x))) * Ideal.ofBits .f32 1037108716#32
      else ⊥ := by
  rw [srow, score, dif_pos hk]

theorem mask_pt (t : Fin cfg0.N) (i j : Fin 512) :
    k0_pay9 (Scalar.muli (BitVec.ofNat 32 (grid0.coords t 2).val) 512#32)
        (Scalar.muli (BitVec.ofNat 32 (grid0.coords t 3).val) 512#32) (ix2 i j) =
      if t.val % 16 * 512 + j.val ≤ t.val / 16 % 16 * 512 + i.val then 1#1 else 0#1 := by
  rw [mask_at _ _ (grid0.coords t 2).isLt (grid0.coords t 3).isLt, (crd t).1, (crd t).2]

theorem hm_at (c : Dev nD) (t : Fin cfg0.N) (a : Fin 2) (i j : Fin 512) :
    k0_pay9 (Scalar.muli (BitVec.ofNat 32 (grid0.coords t 2).val) 512#32)
        (Scalar.muli (BitVec.ofNat 32 (grid0.coords t 3).val) 512#32) (ix2 i j) = 1#1 ∨
      srow m c (tile t) a i (t.val % 16 * 512 + j.val) = ⊥ := by
  rw [mask_pt]
  by_cases h : t.val % 16 * 512 + j.val ≤ t.val / 16 % 16 * 512 + i.val
  · exact Or.inl (if_pos h)
  · exact Or.inr (score_hidden (not_le.mp h))

theorem hs0_at (c : Dev nD) (t : Fin cfg0.N) (h : t.val % 16 ≤ t.val / 16 % 16) (i j : Fin 512) :
    k0_pay13 (Scalar.muli (BitVec.ofNat 32 (grid0.coords t 2).val) 512#32)
        (Scalar.muli (BitVec.ofNat 32 (grid0.coords t 3).val) 512#32)
        (View.ld (iblk m c 0 t) (Rect.unit ![0, 0, 0, 0] ![1, 1, 512, 128] inb_S1x2x512x128_S1x1x512x128_0_0_0_0))
        (View.ld (iblk m c 1 t) (Rect.unit ![0, 0, 0, 0] ![1, 1, 512, 128] inb_S1x2x512x128_S1x1x512x128_0_0_0_0)) (ix2 i j) =
      srow m c (tile t) 0 i (t.val % 16 * 512 + j.val) := by
  rw [score0, mask_pt, row_at m c _ _ _ _ (by omega)]
  simp only [q_at0, k_at0 m c t h]
  by_cases e : t.val % 16 * 512 + j.val ≤ t.val / 16 % 16 * 512 + i.val
  · rw [if_pos e, if_pos rfl, if_pos (show t.val % 16 * 512 + j.val ≤ (tile t).val % 16 * 512 + i.val from e)]
  · rw [if_neg e, if_neg (by decide), if_neg (show ¬t.val % 16 * 512 + j.val ≤ (tile t).val % 16 * 512 + i.val from e)]

theorem hs1_at (c : Dev nD) (t : Fin cfg0.N) (h : t.val % 16 ≤ t.val / 16 % 16) (i j : Fin 512) :
    k0_pay21 (k0_pay9 (Scalar.muli (BitVec.ofNat 32 (grid0.coords t 2).val) 512#32)
        (Scalar.muli (BitVec.ofNat 32 (grid0.coords t 3).val) 512#32))
        (View.ld (iblk m c 0 t) (Rect.unit ![0, 1, 0, 0] ![1, 1, 512, 128] inb_S1x2x512x128_S1x1x512x128_0_1_0_0))
        (View.ld (iblk m c 1 t) (Rect.unit ![0, 1, 0, 0] ![1, 1, 512, 128] inb_S1x2x512x128_S1x1x512x128_0_1_0_0)) (ix2 i j) =
      srow m c (tile t) 1 i (t.val % 16 * 512 + j.val) := by
  rw [score1, mask_pt, row_at m c _ _ _ _ (by omega)]
  simp only [q_at1, k_at1 m c t h]
  by_cases e : t.val % 16 * 512 + j.val ≤ t.val / 16 % 16 * 512 + i.val
  · rw [if_pos e, if_pos rfl, if_pos (show t.val % 16 * 512 + j.val ≤ (tile t).val % 16 * 512 + i.val from e)]
  · rw [if_neg e, if_neg (by decide), if_neg (show ¬t.val % 16 * 512 + j.val ≤ (tile t).val % 16 * 512 + i.val from e)]

/-! ## One grid point -/

/-- The scratch arrays of a grid point hold the first `n` keys' running values. -/
def At (c : Dev nD) (u : Fin 512) (n : ℕ) (xm xl : Vec Ideal S2x512x128 .f32) (xa : Vec Ideal S512x128 .f32) : Prop :=
  Holds (srow m c u 0) (srow m c u 1) (wcol m c u) n xm xl xa

theorem start (c : Dev nD) (t : Fin cfg0.N) (h0 : t.val % 16 = 0) (h1 : t.val % 16 ≤ t.val / 16 % 16) (h2 : ¬t.val % 16 = 15) :
    At m c (tile t) (t.val % 16 * 512 + 512) (outsAt0 m c t.val t.isLt).2.1 (outsAt0 m c t.val t.isLt).2.2.1
      (outsAt0 m c t.val t.isLt).2.2.2 := by
  have p : At m c (tile t) (t.val % 16 * 512) (k0_pay1 (F := Ideal)) (k0_pay2 (F := Ideal)) (k0_pay3 (F := Ideal)) := by
    rw [h0]; exact fresh _ _ _
  have hs0 := hs0_at m c t h1
  have hs1 := hs1_at m c t h1
  have hv := v_at m c t h1
  rw [outsAt0_A m c t h0 h1 h2]
  frame_open
  simp (disch := decide) only [↓ View.readCov_skip, ↓ View.readCov_cons_toLoadRect, ↓ View.readCov_fill]
  frame_out
  constructor <;> intro r l
  · exact (half_zero _ _ _ r l).trans (keep0 hs0 (fun i l => (ld_zero _ i l).trans (p.m0 i l)) 0 r l)
  · exact (half_one _ _ r l).trans (keep1 hs1 (fun i l => (ld_one _ i l).trans (p.m1 i l)) 0 r l)
  · exact (half_zero _ _ _ r l).trans (den0 hs0 (hm_at m c t 0) (fun i l => (ld_zero _ i l).trans (p.m0 i l))
      (fun i l => (ld_zero _ i l).trans (p.l0 i l)) 0 r l)
  · exact (half_one _ _ r l).trans (den1 hs1 (hm_at m c t 1) (fun i l => (ld_one _ i l).trans (p.m1 i l))
      (fun i l => (ld_one _ i l).trans (p.l1 i l)) 0 r l)
  · exact acc_at hs0 (hm_at m c t 0) (fun i l => (ld_zero _ i l).trans (p.m0 i l)) hs1 (hm_at m c t 1)
      (fun i l => (ld_one _ i l).trans (p.m1 i l)) hv p.acc r l

/-- The quotient at row `r`, lane `l`. -/
def quot (c : Dev nD) (u : Fin 512) (n : ℕ) (r : Fin 512) (l : Fin 128) : EReal :=
  Ideal.div (num (if l.val < 64 then srow m c u 0 r else srow m c u 1 r) (wcol m c u l.val) n)
    (max (den (if l.val < 64 then srow m c u 0 r else srow m c u 1 r) n) (Ideal.ofBits .f32 0x0DA24260#32))

theorem quot_of (c : Dev nD) (u : Fin 512) (n : ℕ) (r : Fin 512) (l : Fin 128) {x0 x1 : Vec Ideal S1x512x128 .f32}
    {xa : Vec Ideal S512x128 .f32} (h0 : x0 (ix3 0 r l) = den (srow m c u 0 r) n) (h1 : x1 (ix3 0 r l) = den (srow m c u 1 r) n)
    (ha : xa (ix2 r l) = num (if l.val < 64 then srow m c u 0 r else srow m c u 1 r) (wcol m c u l.val) n) :
    k0_pay8 x0 x1 xa (ix2 r l) = quot m c u n r l := by
  rw [quot_at, ha, h0, h1, quot]
  by_cases h : l.val < 64
  · simp only [if_pos h]
  · simp only [if_neg h]

theorem next (c : Dev nD) (t : Fin cfg0.N) (h0 : ¬t.val % 16 = 0) (h1 : t.val % 16 ≤ t.val / 16 % 16) (h2 : ¬t.val % 16 = 15)
    (hn : t.val - 1 < cfg0.N)
    (p : At m c (tile t) (t.val % 16 * 512) (outsAt0 m c (t.val - 1) hn).2.1 (outsAt0 m c (t.val - 1) hn).2.2.1
      (outsAt0 m c (t.val - 1) hn).2.2.2) :
    At m c (tile t) (t.val % 16 * 512 + 512) (outsAt0 m c t.val t.isLt).2.1 (outsAt0 m c t.val t.isLt).2.2.1
      (outsAt0 m c t.val t.isLt).2.2.2 := by
  have hs0 := hs0_at m c t h1
  have hs1 := hs1_at m c t h1
  have hv := v_at m c t h1
  rw [outsAt0_D m c t h0 h1 h2]
  frame_open
  simp (disch := decide) only [↓ View.readCov_skip, ↓ View.readCov_cons_toLoadRect, ↓ View.readCov_fill]
  frame_out
  simp only [read_unread_whole]
  constructor <;> intro r l
  · exact (half_zero _ _ _ r l).trans (keep0 hs0 (fun i l => (ld_zero _ i l).trans (p.m0 i l)) 0 r l)
  · exact (half_one _ _ r l).trans (keep1 hs1 (fun i l => (ld_one _ i l).trans (p.m1 i l)) 0 r l)
  · exact (half_zero _ _ _ r l).trans (den0 hs0 (hm_at m c t 0) (fun i l => (ld_zero _ i l).trans (p.m0 i l))
      (fun i l => (ld_zero _ i l).trans (p.l0 i l)) 0 r l)
  · exact (half_one _ _ r l).trans (den1 hs1 (hm_at m c t 1) (fun i l => (ld_one _ i l).trans (p.m1 i l))
      (fun i l => (ld_one _ i l).trans (p.l1 i l)) 0 r l)
  · exact acc_at hs0 (hm_at m c t 0) (fun i l => (ld_zero _ i l).trans (p.m0 i l)) hs1 (hm_at m c t 1)
      (fun i l => (ld_one _ i l).trans (p.m1 i l)) hv p.acc r l

theorem last (c : Dev nD) (t : Fin cfg0.N) (h0 : ¬t.val % 16 = 0) (h1 : t.val % 16 ≤ t.val / 16 % 16) (h2 : t.val % 16 = 15)
    (hn : t.val - 1 < cfg0.N)
    (p : At m c (tile t) (t.val % 16 * 512) (outsAt0 m c (t.val - 1) hn).2.1 (outsAt0 m c (t.val - 1) hn).2.2.1
      (outsAt0 m c (t.val - 1) hn).2.2.2) :
    At m c (tile t) (t.val % 16 * 512 + 512) (outsAt0 m c t.val t.isLt).2.1 (outsAt0 m c t.val t.isLt).2.2.1
      (outsAt0 m c t.val t.isLt).2.2.2 := by
  have hs0 := hs0_at m c t h1
  have hs1 := hs1_at m c t h1
  have hv := v_at m c t h1
  rw [outsAt0_E m c t h0 h1 h2]
  frame_open
  simp (disch := decide) only [↓ View.readCov_skip, ↓ View.readCov_cons_toLoadRect, ↓ View.readCov_fill]
  frame_out
  simp only [read_unread_whole]
  constructor <;> intro r l
  · exact (half_zero _ _ _ r l).trans (keep0 hs0 (fun i l => (ld_zero _ i l).trans (p.m0 i l)) 0 r l)
  · exact (half_one _ _ r l).trans (keep1 hs1 (fun i l => (ld_one _ i l).trans (p.m1 i l)) 0 r l)
  · exact (half_zero _ _ _ r l).trans (den0 hs0 (hm_at m c t 0) (fun i l => (ld_zero _ i l).trans (p.m0 i l))
      (fun i l => (ld_zero _ i l).trans (p.l0 i l)) 0 r l)
  · exact (half_one _ _ r l).trans (den1 hs1 (hm_at m c t 1) (fun i l => (ld_one _ i l).trans (p.m1 i l))
      (fun i l => (ld_one _ i l).trans (p.l1 i l)) 0 r l)
  · exact acc_at hs0 (hm_at m c t 0) (fun i l => (ld_zero _ i l).trans (p.m0 i l)) hs1 (hm_at m c t 1)
      (fun i l => (ld_one _ i l).trans (p.m1 i l)) hv p.acc r l

theorem last_out (c : Dev nD) (t : Fin cfg0.N) (h0 : ¬t.val % 16 = 0) (h1 : t.val % 16 ≤ t.val / 16 % 16) (h2 : t.val % 16 = 15)
    (hn : t.val - 1 < cfg0.N)
    (p : At m c (tile t) (t.val % 16 * 512) (outsAt0 m c (t.val - 1) hn).2.1 (outsAt0 m c (t.val - 1) hn).2.2.1
      (outsAt0 m c (t.val - 1) hn).2.2.2) (r : Fin 512) (l : Fin 128) :
    (outsAt0 m c t.val t.isLt).1 (ix2 r l) = quot m c (tile t) (t.val % 16 * 512 + 512) r l := by
  have hs0 := hs0_at m c t h1
  have hs1 := hs1_at m c t h1
  have hv := v_at m c t h1
  rw [outsAt0_E m c t h0 h1 h2]
  frame_open
  simp (disch := decide) only [↓ View.readCov_skip, ↓ View.readCov_cons_toLoadRect, ↓ View.readCov_fill]
  frame_out
  simp only [read_unread_whole]
  refine quot_of m c (tile t) _ r l ?_ ?_ ?_
  · exact den0 hs0 (hm_at m c t 0) (fun i l => (ld_zero _ i l).trans (p.m0 i l))
      (fun i l => (ld_zero _ i l).trans (p.l0 i l)) 0 r l
  · exact den1 hs1 (hm_at m c t 1) (fun i l => (ld_one _ i l).trans (p.m1 i l))
      (fun i l => (ld_one _ i l).trans (p.l1 i l)) 0 r l
  · exact acc_at hs0 (hm_at m c t 0) (fun i l => (ld_zero _ i l).trans (p.m0 i l)) hs1 (hm_at m c t 1)
      (fun i l => (ld_one _ i l).trans (p.m1 i l)) hv p.acc r l

theorem stay (c : Dev nD) (t : Fin cfg0.N) (n : ℕ) (h0 : ¬t.val % 16 = 0) (h1 : ¬t.val % 16 ≤ t.val / 16 % 16)
    (hn : t.val - 1 < cfg0.N)
    (p : At m c (tile t) (n) (outsAt0 m c (t.val - 1) hn).2.1 (outsAt0 m c (t.val - 1) hn).2.2.1
      (outsAt0 m c (t.val - 1) hn).2.2.2) :
    At m c (tile t) (n) (outsAt0 m c t.val t.isLt).2.1 (outsAt0 m c t.val t.isLt).2.2.1
      (outsAt0 m c t.val t.isLt).2.2.2 := by
  by_cases h2 : t.val % 16 = 15
  · rw [outsAt0_C m c t h0 h1 h2]
    frame_out
    exact p
  · rw [outsAt0_B m c t h0 h1 h2]
    frame_out
    exact p

theorem stay_out (c : Dev nD) (t : Fin cfg0.N) (n : ℕ) (h0 : ¬t.val % 16 = 0) (h1 : ¬t.val % 16 ≤ t.val / 16 % 16)
    (h2 : t.val % 16 = 15) (hn : t.val - 1 < cfg0.N)
    (p : At m c (tile t) (n) (outsAt0 m c (t.val - 1) hn).2.1 (outsAt0 m c (t.val - 1) hn).2.2.1
      (outsAt0 m c (t.val - 1) hn).2.2.2) (r : Fin 512) (l : Fin 128) :
    (outsAt0 m c t.val t.isLt).1 (ix2 r l) = quot m c (tile t) n r l := by
  rw [outsAt0_C m c t h0 h1 h2]
  frame_out
  simp only [read_unread_whole]
  exact quot_of m c (tile t) n r l ((ld_zero _ r l).trans (p.l0 r l)) ((ld_one _ r l).trans (p.l1 r l)) (p.acc r l)

/-! ## All grid points -/

/-- After each grid point the scratch arrays hold the keys up to the end of its key tile, and no further than its own query tile. -/
theorem holds (c : Dev nD) (n : ℕ) : ∀ h : n < cfg0.N, At m c (tile ⟨n, h⟩) (min (n % 16) (n / 16 % 16) * 512 + 512)
    (outsAt0 m c n h).2.1 (outsAt0 m c n h).2.2.1 (outsAt0 m c n h).2.2.2 := by
  induction n with
  | zero =>
    intro h
    exact start m c ⟨0, h⟩ (by simp) (by simp) (by simp)
  | succ k ih =>
    intro h
    by_cases h0 : (k + 1) % 16 = 0
    · have e : min ((k + 1) % 16) ((k + 1) / 16 % 16) = (k + 1) % 16 := by omega
      rw [e]
      exact start m c ⟨k + 1, h⟩ h0 (by show (k + 1) % 16 ≤ (k + 1) / 16 % 16; omega) (by show ¬(k + 1) % 16 = 15; omega)
    · have hk : k < cfg0.N := by omega
      have eu : tile ⟨k, hk⟩ = tile ⟨k + 1, h⟩ := Fin.ext (by show k / 16 = (k + 1) / 16; omega)
      have p := ih hk
      rw [eu] at p
      by_cases h1 : (k + 1) % 16 ≤ (k + 1) / 16 % 16
      · have e : min ((k + 1) % 16) ((k + 1) / 16 % 16) = (k + 1) % 16 := by omega
        have e' : min (k % 16) (k / 16 % 16) * 512 + 512 = (k + 1) % 16 * 512 := by omega
        rw [e'] at p
        rw [e]
        by_cases h2 : (k + 1) % 16 = 15
        · exact last m c ⟨k + 1, h⟩ h0 h1 h2 hk p
        · exact next m c ⟨k + 1, h⟩ h0 h1 h2 hk p
      · have e : min ((k + 1) % 16) ((k + 1) / 16 % 16) = min (k % 16) (k / 16 % 16) := by omega
        rw [e]
        exact stay m c ⟨k + 1, h⟩ _ h0 h1 hk p

theorem out_at (c : Dev nD) (t : Fin cfg0.N) (h2 : t.val % 16 = 15) (r : Fin 512) (l : Fin 128) :
    (outsAt0 m c t.val t.isLt).1 (ix2 r l) = quot m c (tile t) (t.val / 16 % 16 * 512 + 512) r l := by
  have ht : t.val < 8192 := t.isLt
  have hk : t.val - 1 < cfg0.N := by have := t.isLt; omega
  have eu : tile ⟨t.val - 1, hk⟩ = tile t := Fin.ext (by show (t.val - 1) / 16 = t.val / 16; omega)
  have p := holds m c (t.val - 1) hk
  rw [eu] at p
  by_cases h1 : t.val % 16 ≤ t.val / 16 % 16
  · rw [show min ((t.val - 1) % 16) ((t.val - 1) / 16 % 16) * 512 + 512 = t.val % 16 * 512 by omega] at p
    rw [show t.val / 16 % 16 * 512 + 512 = t.val % 16 * 512 + 512 by omega]
    exact last_out m c t (by omega) h1 h2 hk p r l
  · rw [show min ((t.val - 1) % 16) ((t.val - 1) / 16 % 16) * 512 + 512 = t.val / 16 % 16 * 512 + 512 by omega] at p
    exact stay_out m c t _ (by omega) h1 h2 hk p r l

/-! ## The array after the run -/

/-- The reference's result over the arrays that the kernel was launched with. -/
def refOut (c : Dev nD) : (⟨S32768x1024, .bf16⟩ : BufTy).Contents (Elt Ideal) :=
  Cert.Reference4Ideal.Read.val_main_v29 (F := Ideal) (m ((c.tc : Thread nD τ).loc main_arg0)) (m ((c.tc : Thread nD τ).loc main_arg1))
    (m ((c.tc : Thread nD τ).loc main_arg2))

/-- The keys past a query's own tile are hidden from it. -/
theorem quot_all (c : Dev nD) (u : Fin 512) (r : Fin 512) (l : Fin 128) (a : Fin 2) (ha : a.val = l.val / 64) :
    quot m c u (u.val % 16 * 512 + 512) r l = attn (u.val % 16 * 512 + r.val)
      (fun x => m ((c.tc : Thread nD τ).loc main_arg0)
        (ix4 ⟨u.val / 128, by omega⟩ ⟨u.val / 16 % 8 * 2 + a.val, by omega⟩ ⟨u.val % 16 * 512 + r.val, by omega⟩ x))
      (fun k x => m ((c.tc : Thread nD τ).loc main_arg1)
        (ix4 ⟨u.val / 128, by omega⟩ ⟨u.val / 16 % 8 * 2 + a.val, by omega⟩ k x))
      (fun k => m ((c.tc : Thread nD τ).loc main_arg2)
        (ix2 ⟨u.val / 128 * 8192 + k.val, by omega⟩ ⟨(u.val / 16 % 8 * 128 + l.val) % 1024, by omega⟩)) := by
  have e : (if l.val < 64 then srow m c u 0 r else srow m c u 1 r) = srow m c u a r := by
    by_cases h : l.val < 64
    · rw [if_pos h, show a = 0 from Fin.ext (by rw [ha]; show _ = 0; omega)]
    · rw [if_neg h, show a = 1 from Fin.ext (by rw [ha]; show _ = 1; omega)]
  have hb : ∀ i, u.val % 16 * 512 + 512 ≤ i → srow m c u a r i = ⊥ := fun i hi => score_hidden (by omega)
  have hn : u.val % 16 * 512 + 512 ≤ 8192 := by omega
  rw [quot, e, ← num_tail _ hn hb, ← den_tail hn hb]
  rfl

/-- The output block is written back at the last key tile. -/
theorem ends : ∀ t : Fin cfg0.N, (cfg0.win 3).flush t = true → t.val % 16 = 15 := by
  decide +kernel

/-- The output array after the run is the reference's result. -/
theorem final (c : Dev nD) : (dats m 0 c).arrAt 3 cfg0.N = refOut m c := by
  refine (dats m 0 c).arrAt_eq_of_covers 3 _ (by decide +kernel) fun t hf y => ?_
  blk_simp
  rw [after0_3]
  obtain ⟨r, l, rfl⟩ : ∃ r l, y = ix2 r l := ⟨y 0, y 1, by blk_ext []⟩
  have ht : t.val < 8192 := t.isLt
  have h2 : t.val % 16 = 15 := ends t hf
  rw [out_at m c t h2]
  have e : (((View.whole main_v0).slice (win0_3.rect t)).emb (ix2 r l)) =
      ix2 ⟨(⟨t.val / 2048, by omega⟩ : Fin 4).val * 8192 + (⟨t.val / 16 % 16 * 512 + r.val, by omega⟩ : Fin 8192).val, by omega⟩
        ⟨(⟨t.val / 256 % 8 * 2 + l.val / 64, by omega⟩ : Fin 16).val * 64 + (⟨l.val % 64, by omega⟩ : Fin 64).val, by omega⟩ := by
    blk_ext [idx t]
  refine Eq.trans ?_ (congrArg (refOut m c) e).symm
  unfold refOut
  rw [Cert.Reference4Ideal.RefValue.ref_at]
  refine (quot_all m c (tile t) r l ⟨l.val / 64, by omega⟩ rfl).trans ?_
  unfold tile
  blk_point []

end Cert.Kernel4Ideal.RefValue

end
-- ==== Proof.Mlp.lean ====
module

public import proofs.«01_k».proof.Proof.Gen.KernelIdeal.Value
public import proofs.«01_k».proof.Proof.Gen.ReferenceIdeal.Read
public import Idealize.ShloMosaic.Lib.Pointwise
public import Idealize.ShloMosaic.Lib.Pipeline.ValueKit
public import Idealize.ShloMosaic.Lib.Pipeline.ValueKit.Held
public import Idealize.ShloMosaic.Lib.Pipeline.ReadBack

/-! The feed-forward layer with the last norm: the array the kernel leaves is the reference's result. -/

@[expose] public section

noncomputable section

namespace Cert.KernelIdeal.RefValue

open Cert.KernelIdeal Cert.KernelIdeal.Gen Idealize.ShloMosaic Idealize.SL.Sem
open Cert.ReferenceIdeal.Read

/-! ## One row of the layer, in plain sums -/

/-- The root-mean-square norm of a row. -/
def norm (h g : Fin 2048 → EReal) (l : Fin 2048) : EReal :=
  h l * Ideal.rsqrt (Ideal.div (∑ k, h k * h k) (Ideal.ofBits .f32 1157627904#32) + Ideal.ofBits .f32 897988541#32) * g l

/-- A hidden feature: the squared positive part of a product of the row with a column of weights. -/
def hidden (a w : Fin 2048 → EReal) : EReal :=
  max (∑ k, a k * w k) 0 * max (∑ k, a k * w k) 0

/-! ## The kernel's payloads are these -/

theorem pay1_apply (x : FVec Ideal S512x2048 .f32) (g : FVec Ideal S1x2048 .f32) (r : Fin 512) (l : Fin 2048) :
    k0_pay1 (F := Ideal) x g (ix2 r l) = norm (fun k => x (ix2 r k)) (fun k => g (ix2 0 k)) l := by
  pointwise [k0_pay1]
  rfl

theorem pay2_apply (r : Fin 512) (l : Fin 2048) : k0_pay2 (F := Ideal) (ix2 r l) = 0 := by
  pointwise [k0_pay2]

theorem pay3_apply (a : FVec Ideal S512x2048 .bf16) (w : FVec Ideal S2048x1024 .bf16) (acc : FVec Ideal S512x2048 .f32)
    (w2 : FVec Ideal S1024x2048 .bf16) (r : Fin 512) (l : Fin 2048) :
    k0_pay3 (F := Ideal) a w acc w2 (ix2 r l)
      = acc (ix2 r l) + ∑ f, hidden (fun k => a (ix2 r k)) (fun k => w (ix2 k f)) * w2 (ix2 f l) := by
  pointwise [k0_pay3]
  rfl

theorem pay4_apply (x a : FVec Ideal S512x2048 .f32) (g : FVec Ideal S1x2048 .f32) (r : Fin 512) (l : Fin 2048) :
    k0_pay4 (F := Ideal) x a g (ix2 r l) = norm (fun k => x (ix2 r k) + a (ix2 r k)) (fun k => g (ix2 0 k)) l := by
  pointwise [k0_pay4]
  rfl

/-! ## The reference's stages are these -/

section Reference

open Cert.ReferenceIdeal.Gen

variable (x0 : (⟨Cert.ReferenceIdeal.S32768x2048, .f32⟩ : BufTy).Contents (Elt Ideal))
  (x1 : (⟨Cert.ReferenceIdeal.S2048, .f32⟩ : BufTy).Contents (Elt Ideal))
  (x2 : (⟨Cert.ReferenceIdeal.S2048x8192, .f32⟩ : BufTy).Contents (Elt Ideal))
  (x3 : (⟨Cert.ReferenceIdeal.S8192x2048, .f32⟩ : BufTy).Contents (Elt Ideal))
  (x4 : (⟨Cert.ReferenceIdeal.S2048, .f32⟩ : BufTy).Contents (Elt Ideal))

theorem v12_at (r : Fin 32768) (l : Fin 2048) :
    val_main_v12 (F := Ideal) x0 x1 (ix2 r l) = norm (fun k => x0 (ix2 r k)) (fun k => x1 (ix1 k)) l := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]
  rfl

theorem v17_at (r : Fin 32768) (l : Fin 2048) :
    val_main_v17 (F := Ideal) x0 x1 x2 x3 (ix2 r l)
      = x0 (ix2 r l) + ∑ f : Fin 8192, hidden (norm (fun k => x0 (ix2 r k)) (fun k => x1 (ix1 k))) (fun k => x2 (ix2 k f)) * x3 (ix2 f l) := by
  pointwise [val_main_v17, val_main_v16, val_main_v15, val_main_v14, val_main_v13, val_main_call0_v0, val_main_call0_cst]
  simp only [v12_at]
  rfl

theorem v30_at (r : Fin 32768) (l : Fin 2048) :
    val_main_v30 (F := Ideal) x0 x1 x2 x3 x4 (ix2 r l)
      = norm (fun k => val_main_v17 (F := Ideal) x0 x1 x2 x3 (ix2 r k)) (fun k => x4 (ix1 k)) l := by
  pointwise [val_main_v30, val_main_v29, val_main_v28, val_main_v27, val_main_v26, val_main_v25, val_main_v24, val_main_v23, val_main_v22,
    val_main_v21, val_main_v20, val_main_v19, val_main_v18, val_main_cst_2, val_main_cst_3, val_main_cst_4]
  rfl

end Reference

/-! ## The blocks -/

variable (m : (ℓ : Loc nD τ sig) → Buf (Elt Ideal) ℓ)

/-- The arrays that the kernel was launched with, as functions of their coordinates. -/
def aX (c : Dev nD) (r : Fin 32768) (k : Fin 2048) : EReal := m ((c.tc : Thread nD τ).loc main_arg0) (ix2 r k)
def aG (c : Dev nD) (k : Fin 2048) : EReal := m ((c.tc : Thread nD τ).loc main_arg1) (ix1 k)
def aW1 (c : Dev nD) (k : Fin 2048) (f : Fin 8192) : EReal := m ((c.tc : Thread nD τ).loc main_arg2) (ix2 k f)
def aW2 (c : Dev nD) (f : Fin 8192) (l : Fin 2048) : EReal := m ((c.tc : Thread nD τ).loc main_arg3) (ix2 f l)
def aGf (c : Dev nD) (k : Fin 2048) : EReal := m ((c.tc : Thread nD τ).loc main_arg4) (ix1 k)

/-- Where the blocks of each window stand: row tile `t / 8`, tile of hidden features `t % 8`. -/
theorem idx : ∀ t : Fin cfg0.N,
    win0_0.index t = ![t.val / 8, 0] ∧ win0_1.index t = ![0, 0] ∧ win0_2.index t = ![0, t.val % 8] ∧ win0_3.index t = ![t.val % 8, 0]
      ∧ win0_4.index t = ![0, 0] ∧ win0_5.index t = ![t.val / 8, 0] := by
  decide +kernel

theorem row_lt (t : Fin cfg0.N) (r : Fin 512) : t.val / 8 * 512 + r.val < 32768 := by
  have ht : t.val < 512 := t.isLt
  omega

theorem col_lt (t : Fin cfg0.N) (f : Fin 1024) : t.val % 8 * 1024 + f.val < 8192 := by omega

/-- Row `r` of the tile at point `t`. -/
abbrev row (t : Fin cfg0.N) (r : Fin 512) : Fin 32768 := ⟨t.val / 8 * 512 + r.val, row_lt t r⟩

theorem b0 (c : Dev nD) (t : Fin cfg0.N) (r : Fin 512) (k : Fin 2048) : iblk m c 0 t (ix2 r k) = aX m c (row t r) k := by
  unfold aX; blk_ext [iblk, V, idx t]
theorem b1 (c : Dev nD) (t : Fin cfg0.N) (k : Fin 2048) : iblk m c 1 t (ix2 0 k) = aG m c k := by
  unfold aG; blk_point [iblk, V, idx t]
theorem b2 (c : Dev nD) (t : Fin cfg0.N) (k : Fin 2048) (f : Fin 1024) :
    iblk m c 2 t (ix2 k f) = aW1 m c k ⟨t.val % 8 * 1024 + f.val, col_lt t f⟩ := by
  unfold aW1; blk_point [iblk, V, idx t]
theorem b3 (c : Dev nD) (t : Fin cfg0.N) (f : Fin 1024) (l : Fin 2048) :
    iblk m c 3 t (ix2 f l) = aW2 m c ⟨t.val % 8 * 1024 + f.val, col_lt t f⟩ l := by
  unfold aW2; blk_point [iblk, V, idx t]
theorem b4 (c : Dev nD) (t : Fin cfg0.N) (k : Fin 2048) : iblk m c 4 t (ix2 0 k) = aGf m c k := by
  unfold aGf; blk_point [iblk, V, idx t]

/-! ## The carried scratch -/

/-- The normed row that the first point of a row tile stores. -/
def hn (c : Dev nD) (t : Fin cfg0.N) (r : Fin 512) : Fin 2048 → EReal := norm (aX m c (row t r)) (aG m c)

/-- The normed rows stay in the scratch for every point of a row tile. -/
theorem hn_at (c : Dev nD) (t : Fin cfg0.N) (r : Fin 512) (l : Fin 2048) :
    (outsAt0 m c t.val t.isLt).2.1 (ix2 r l) = hn m c t r l := by
  have h := Pipeline.eq_of_write_hold_apply (fun n h => (outsAt0 m c n h).2.1) 8
    (fun t i => k0_pay1 (F := Ideal) (iblk m c 0 t) (iblk m c 1 t) i) ?_ ?_ t (ix2 r l)
  · rw [h, pay1_apply]
    simp only [b0, b1]
    have e : row ⟨8 * (t.val / 8), by have := t.isLt; omega⟩ r = row t r := Fin.ext (by simp)
    rw [e]
    rfl
  · intro t h0 i
    rw [outsAt0_A m c t h0 (by omega)]
    frame_out
  · intro t h0 i
    by_cases h1 : t.val % 8 = 7
    · rw [outsAt0_C m c t h0 h1]
      rfl
    · rw [outsAt0_B m c t h0 h1]
      rfl

/-- What one tile of hidden features adds to a row. -/
def term (c : Dev nD) (t : Fin cfg0.N) (i : S512x2048.Idx) : EReal :=
  ∑ f : Fin 1024, hidden (hn m c t (i 0)) (fun k => aW1 m c k ⟨t.val % 8 * 1024 + f.val, col_lt t f⟩)
    * aW2 m c ⟨t.val % 8 * 1024 + f.val, col_lt t f⟩ (i 1)

theorem pay3_term (c : Dev nD) (t : Fin cfg0.N) (a : FVec Ideal S512x2048 .bf16) (acc : FVec Ideal S512x2048 .f32)
    (ha : ∀ r k, a (ix2 r k) = hn m c t r k) (i : S512x2048.Idx) :
    k0_pay3 (F := Ideal) a (iblk m c 2 t) acc (iblk m c 3 t) i = acc i + term m c t i := by
  obtain ⟨r, l, rfl⟩ : ∃ r l, i = ix2 r l := ⟨i 0, i 1, by blk_ext []⟩
  rw [pay3_apply]
  simp only [b2, b3, ha]
  rfl

theorem step_hn (c : Dev nD) (t : Fin cfg0.N) (h0 : ¬t.val % 8 = 0) (r : Fin 512) (k : Fin 2048) :
    (outsAt0 m c (t.val - 1) (Nat.lt_of_le_of_lt (Nat.sub_le _ _) t.isLt)).2.1 (ix2 r k) = hn m c t r k := by
  rw [hn_at m c ⟨t.val - 1, Nat.lt_of_le_of_lt (Nat.sub_le _ _) t.isLt⟩ r k]
  have e : row ⟨t.val - 1, Nat.lt_of_le_of_lt (Nat.sub_le _ _) t.isLt⟩ r = row t r := Fin.ext (by simp; omega)
  unfold hn
  rw [e]

/-- The sum over all tiles of hidden features, at the last point of a row tile. -/
theorem acc_at (c : Dev nD) (t : Fin cfg0.N) (ht : t.val % 8 = 7) (i : S512x2048.Idx) :
    (outsAt0 m c t.val t.isLt).2.2 i
      = ∑ s : Fin 8, term m c ⟨8 * (t.val / 8) + s.val, Pipeline.run_point_lt_of_flush t ht s⟩ i := by
  have h := Pipeline.eq_sum_fin_of_reset_step_apply_of_flush (fun n h => (outsAt0 m c n h).2.2) 8
    (fun _ => (0 : EReal)) (fun t i => term m c t i) ?_ ?_ t ht i
  · rw [h, zero_add]
  · intro t h0 i
    rw [outsAt0_A m c t h0 (by omega)]
    frame_out
    rw [pay3_term m c t _ _ (fun r k => by rw [pay1_apply]; simp only [b0, b1]; rfl)]
    congr 1
    obtain ⟨r, l, rfl⟩ : ∃ r l, i = ix2 r l := ⟨i 0, i 1, by blk_ext []⟩
    exact pay2_apply r l
  · intro t h0 i
    by_cases h1 : t.val % 8 = 7
    · rw [outsAt0_C m c t h0 h1]
      frame_out
      simp only [read_unread_whole]
      exact pay3_term m c t _ _ (step_hn m c t h0) i
    · rw [outsAt0_B m c t h0 h1]
      frame_out
      simp only [read_unread_whole]
      exact pay3_term m c t _ _ (step_hn m c t h0) i

/-- What the last point of a row tile stores is the last norm over the row and its sum. -/
theorem out_at (c : Dev nD) (t : Fin cfg0.N) (h1 : t.val % 8 = 7) (i : S512x2048.Idx) :
    (outsAt0 m c t.val t.isLt).1 i
      = k0_pay4 (F := Ideal) (iblk m c 0 t) (outsAt0 m c t.val t.isLt).2.2 (iblk m c 4 t) i := by
  rw [outsAt0_C m c t (by omega) h1]
  frame_out

/-! ## The array after the run -/

/-- The reference's result over the arrays that the kernel was launched with. -/
def refOut (c : Dev nD) : (⟨S32768x2048, .f32⟩ : BufTy).Contents (Elt Ideal) :=
  val_main_v30 (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- The sum over the tiles is the sum over all hidden features. -/
theorem sum_term (c : Dev nD) (t : Fin cfg0.N) (ht : t.val % 8 = 7) (r : Fin 512) (l : Fin 2048) :
    ∑ s : Fin 8, term m c ⟨8 * (t.val / 8) + s.val, Pipeline.run_point_lt_of_flush t ht s⟩ (ix2 r l)
      = ∑ f : Fin 8192, hidden (norm (aX m c (row t r)) (aG m c)) (fun k => aW1 m c k f) * aW2 m c f l := by
  unfold term
  refine Fin.sum_mul_add_congr fun s f hl => ?_
  have e : row ⟨8 * (t.val / 8) + s.val, Pipeline.run_point_lt_of_flush t ht s⟩ r = row t r := Fin.ext (by simp; omega)
  have e' : (⟨(8 * (t.val / 8) + s.val) % 8 * 1024 + f.val, by omega⟩ : Fin 8192) = ⟨s.val * 1024 + f.val, hl⟩ := Fin.ext (by simp)
  show hidden (hn m c _ r) (fun k => aW1 m c k ⟨(8 * (t.val / 8) + s.val) % 8 * 1024 + f.val, _⟩)
    * aW2 m c ⟨(8 * (t.val / 8) + s.val) % 8 * 1024 + f.val, _⟩ l = _
  rw [e']
  unfold hn
  rw [e]

/-- The output array after the run is the reference's result. -/
theorem final (c : Dev nD) : (dats m 0 c).arrAt 5 cfg0.N = refOut m c := by
  refine (dats m 0 c).arrAt_eq_of_covers 5 _ (by decide +kernel) fun t hf y => ?_
  have ht : t.val % 8 = 7 := (flush0_5 t).mp hf
  blk_simp
  rw [after0_5]
  obtain ⟨r, l, rfl⟩ : ∃ r l, y = ix2 r l := ⟨y 0, y 1, by blk_ext []⟩
  have e : (((View.whole main_v4).slice (win0_5.rect t)).emb (ix2 r l)) = ix2 (row t r) l := by
    blk_ext [idx t]
  refine Eq.trans ?_ (congrArg (refOut m c) e).symm
  unfold refOut
  rw [v30_at, out_at m c t ht, pay4_apply]
  simp only [v17_at, acc_at m c t ht, sum_term m c t ht, b0, b4]
  rfl

end Cert.KernelIdeal.RefValue

end
-- ==== Proof.Xattn.lean ====
module

public import proofs.«01_k».proof.Proof.Gen.Kernel2Ideal.Value
public import proofs.«01_k».proof.Proof.Gen.Reference2Ideal.Read
public import Idealize.ShloMosaic.Lib.Pointwise
public import Idealize.ShloMosaic.Lib.Pipeline.ValueKit

/-! The output projection with the memory cross-attention: the array the kernel leaves is the reference's result. -/

@[expose] public section

noncomputable section

namespace Cert.Kernel2Ideal.RefValue

open Cert.Kernel2Ideal Cert.Kernel2Ideal.Gen Idealize.ShloMosaic Idealize.SL.Sem
open Cert.Reference2Ideal.Read

/-! ## One row of the layer, in plain sums -/

/-- A row after the root-mean-square norm and the projection to the queries. -/
def query (h g : Fin 2048 → EReal) (wq : Fin 2048 → Fin 512 → EReal) (l : Fin 512) : EReal :=
  ∑ x, h x * Ideal.rsqrt (Ideal.div (∑ k, h k * h k) (Ideal.ofBits .f32 1157627904#32) + Ideal.ofBits .f32 897988541#32) * g x * wq x l

/-- The score of memory row `j` in head `a`. -/
def score (q : Fin 512 → EReal) (kv : Fin 256 → Fin 1024 → EReal) (a : Fin 4) (j : Fin 256) : EReal :=
  (∑ d : Fin 128, q ⟨a.val * 128 + d.val, by omega⟩ * kv j ⟨a.val * 128 + d.val, by omega⟩) * Ideal.ofBits .f32 1035273459#32

/-- The largest score of a head. -/
def top (q : Fin 512 → EReal) (kv : Fin 256 → Fin 1024 → EReal) (a : Fin 4) : EReal :=
  Finset.fold max (Ideal.ofBits .f32 4286578688#32) (fun j => score q kv a j) Finset.univ

/-- The softmax average of the memory's values in head `a`, at feature `d`. -/
def average (q : Fin 512 → EReal) (kv : Fin 256 → Fin 1024 → EReal) (a : Fin 4) (d : Fin 128) : EReal :=
  ∑ j, Ideal.div (Ideal.exp (score q kv a j - top q kv a)) (∑ i, Ideal.exp (score q kv a i - top q kv a))
    * kv j ⟨512 + (a.val * 128 + d.val), by omega⟩

/-- The row that comes out. -/
def outRow (h g : Fin 2048 → EReal) (wq : Fin 2048 → Fin 512 → EReal) (kv : Fin 256 → Fin 1024 → EReal)
    (wo : Fin 512 → Fin 2048 → EReal) (l : Fin 2048) : EReal :=
  h l + ∑ x : Fin 512, average (query h g wq) kv ⟨x.val / 128, by omega⟩ ⟨x.val % 128, by omega⟩ * wo x l

/-! ## The kernel's payloads are these -/

section Payloads

variable (q : FVec Ideal S512x512 .bf16) (kv : FVec Ideal S256x1024 .bf16)

/-- The function of one head, for any placement of its columns. -/
theorem pay8_apply (r : Fin 512) (d : Fin 128) :
    k0_pay8 (F := Ideal) q kv (ix2 r d) = average (fun k => q (ix2 r k)) (fun j k => kv (ix2 j k)) 1 d := by
  pointwise [k0_pay8]
  simp only [average, top, score]
  blk_point []

theorem pay9_apply (r : Fin 512) (d : Fin 128) :
    k0_pay9 (F := Ideal) q kv (ix2 r d) = average (fun k => q (ix2 r k)) (fun j k => kv (ix2 j k)) 2 d := by
  pointwise [k0_pay9]
  simp only [average, top, score]
  blk_point []

theorem pay11_apply (r : Fin 512) (j : Fin 256) :
    k0_pay11 (F := Ideal) q kv (ix2 r j) = score (fun k => q (ix2 r k)) (fun j k => kv (ix2 j k)) 3 j := by
  pointwise [k0_pay11]
  simp only [score]
  blk_point []

theorem pay12_apply (r : Fin 512) :
    k0_pay12 (F := Ideal) q kv (ix1 r) = top (fun k => q (ix2 r k)) (fun j k => kv (ix2 j k)) 3 := by
  pointwise [k0_pay12]
  simp only [pay11_apply, top]

theorem pay10_apply (j : Fin 256) (d : Fin 128) :
    k0_pay10 (F := Ideal) kv (ix2 j d) = kv (ix2 j ⟨512 + (3 * 128 + d.val), by omega⟩) := by
  pointwise [k0_pay10]
  blk_point []

end Payloads

variable (x : FVec Ideal S512x2048 .f32) (mx : FVec Ideal S512x2048 .bf16) (w : FVec Ideal S2048x2048 .bf16) (g : FVec Ideal S1x2048 .f32)
  (wq : FVec Ideal S2048x512 .bf16) (kv : FVec Ideal S256x1024 .bf16) (wo : FVec Ideal S512x2048 .bf16)

theorem pay3_apply (r l : Fin 512) :
    k0_pay3 (F := Ideal) x mx w g wq (ix2 r l)
      = query (fun k => k0_pay2 (F := Ideal) x mx w (ix2 r k)) (fun k => g (ix2 0 k)) (fun k l => wq (ix2 k l)) l := by
  pointwise [k0_pay3]
  rfl

theorem pay5_apply (r : Fin 512) (j : Fin 256) :
    k0_pay5 (F := Ideal) x mx w g wq kv (ix2 r j)
      = Ideal.exp (score (fun k => k0_pay3 (F := Ideal) x mx w g wq (ix2 r k)) (fun j k => kv (ix2 j k)) 0 j
          - top (fun k => k0_pay3 (F := Ideal) x mx w g wq (ix2 r k)) (fun j k => kv (ix2 j k)) 0) := by
  pointwise [k0_pay5]
  simp only [top, score]
  blk_point []

theorem pay7_apply (r : Fin 512) (d : Fin 128) :
    k0_pay7 (F := Ideal) (k0_pay4 (F := Ideal) kv) (k0_pay5 (F := Ideal) x mx w g wq kv) (k0_pay6 (F := Ideal) x mx w g wq kv) (ix2 r d)
      = average (fun k => k0_pay3 (F := Ideal) x mx w g wq (ix2 r k)) (fun j k => kv (ix2 j k)) 0 d := by
  pointwise [k0_pay7, k0_pay6, k0_pay4]
  simp only [pay5_apply, average]
  blk_point []

/-- The whole payload that is stored, row by row. -/
theorem pay1_apply (r : Fin 512) (l : Fin 2048) :
    k0_pay1 (F := Ideal) (k0_pay2 (F := Ideal) x mx w)
        (k0_pay7 (F := Ideal) (k0_pay4 (F := Ideal) kv) (k0_pay5 (F := Ideal) x mx w g wq kv) (k0_pay6 (F := Ideal) x mx w g wq kv))
        (k0_pay8 (F := Ideal) (k0_pay3 (F := Ideal) x mx w g wq) kv) (k0_pay9 (F := Ideal) (k0_pay3 (F := Ideal) x mx w g wq) kv)
        (k0_pay10 (F := Ideal) kv) (k0_pay11 (F := Ideal) (k0_pay3 (F := Ideal) x mx w g wq) kv)
        (k0_pay12 (F := Ideal) (k0_pay3 (F := Ideal) x mx w g wq) kv) wo (ix2 r l)
      = outRow (fun k => x (ix2 r k) + ∑ i, mx (ix2 r i) * w (ix2 i k)) (fun k => g (ix2 0 k)) (fun k l => wq (ix2 k l))
          (fun j k => kv (ix2 j k)) (fun k l => wo (ix2 k l)) l := by
  have h2 : ∀ k, k0_pay2 (F := Ideal) x mx w (ix2 r k) = x (ix2 r k) + ∑ i, mx (ix2 r i) * w (ix2 i k) := fun k => by
    pointwise [k0_pay2]
  have hq : (fun k => k0_pay3 (F := Ideal) x mx w g wq (ix2 r k))
      = query (fun k => x (ix2 r k) + ∑ i, mx (ix2 r i) * w (ix2 i k)) (fun k => g (ix2 0 k)) (fun k l => wq (ix2 k l)) :=
    funext fun k => by rw [pay3_apply]; simp only [h2]
  generalize hp7 : k0_pay7 (F := Ideal) (k0_pay4 (F := Ideal) kv) (k0_pay5 (F := Ideal) x mx w g wq kv) (k0_pay6 (F := Ideal) x mx w g wq kv) = p7
  generalize hp8 : k0_pay8 (F := Ideal) (k0_pay3 (F := Ideal) x mx w g wq) kv = p8
  generalize hp9 : k0_pay9 (F := Ideal) (k0_pay3 (F := Ideal) x mx w g wq) kv = p9
  generalize hp10 : k0_pay10 (F := Ideal) kv = p10
  generalize hp11 : k0_pay11 (F := Ideal) (k0_pay3 (F := Ideal) x mx w g wq) kv = p11
  generalize hp12 : k0_pay12 (F := Ideal) (k0_pay3 (F := Ideal) x mx w g wq) kv = p12
  generalize hpp : k0_pay2 (F := Ideal) x mx w = p2 at h2
  pointwise [k0_pay1]
  rw [h2, outRow]
  congr 1
  refine Finset.sum_congr rfl fun i _ => ?_
  congr 1
  subst hp7 hp8 hp9 hp10 hp11 hp12
  split
  · rename_i hi
    rw [pay7_apply, hq]
    have e : (⟨i.val / 128, by omega⟩ : Fin 4) = 0 := Fin.ext (by simp; omega)
    have e' : (⟨i.val % 128, by omega⟩ : Fin 128) = ⟨i.val, hi⟩ := Fin.ext (by simp; omega)
    rw [e, e']
  · split
    · rename_i h₁ hi
      rw [pay8_apply, hq]
      have e : (⟨i.val / 128, by omega⟩ : Fin 4) = 1 := Fin.ext (by simp; omega)
      have e' : (⟨i.val % 128, by omega⟩ : Fin 128) = ⟨i.val - 128, hi⟩ := Fin.ext (by simp; omega)
      rw [e, e']
    · split
      · rename_i h₁ h₂ hi
        rw [pay9_apply, hq]
        have e : (⟨i.val / 128, by omega⟩ : Fin 4) = 2 := Fin.ext (by simp; omega)
        have e' : (⟨i.val % 128, by omega⟩ : Fin 128) = ⟨i.val - 128 - 128, hi⟩ := Fin.ext (by simp; omega)
        rw [e, e']
      · rename_i h₁ h₂ h₃
        have e : (⟨i.val / 128, by omega⟩ : Fin 4) = 3 := Fin.ext (by simp; omega)
        have e' : (⟨i.val % 128, by omega⟩ : Fin 128) = ⟨i.val - 128 - 128 - 128, by omega⟩ := Fin.ext (by simp; omega)
        rw [e, e']
        simp only [pay10_apply, pay11_apply, pay12_apply, hq, average]
        rfl

/-! ## The reference's stages are these -/

section Reference

open Cert.Reference2Ideal.Gen

variable (x0 : (⟨Cert.Reference2Ideal.S32768x2048, .f32⟩ : BufTy).Contents (Elt Ideal))
  (x1 : (⟨Cert.Reference2Ideal.S32768x2048, .bf16⟩ : BufTy).Contents (Elt Ideal))
  (x2 : (⟨Cert.Reference2Ideal.S2048x2048, .f32⟩ : BufTy).Contents (Elt Ideal))
  (x3 : (⟨Cert.Reference2Ideal.S2048, .f32⟩ : BufTy).Contents (Elt Ideal))
  (x4 : (⟨Cert.Reference2Ideal.S2048x512, .f32⟩ : BufTy).Contents (Elt Ideal))
  (x5 : (⟨Cert.Reference2Ideal.S1024x1024, .bf16⟩ : BufTy).Contents (Elt Ideal))
  (x6 : (⟨Cert.Reference2Ideal.S512x2048, .f32⟩ : BufTy).Contents (Elt Ideal))

/-- The maximum over the memory rows, as a fold. -/
theorem max_at (y : FVec Ideal Cert.Reference2Ideal.S4x4x8192x256 .f32) (z : FVec Ideal Cert.Reference2Ideal.S_ .f32)
    (b : Fin 4) (h : Fin 4) (i : Fin 8192) :
    Host.reduce (FloatOps.maximumf (F := Ideal) (φ := .f32)) y z reducesTo_S4x4x8192x256_S4x4x8192_d3 h_S_ (ix3 b h i)
      = Finset.fold max (z (Shape.Idx.first h_S_)) (fun j : Fin 256 => y (ix4 b h i j)) Finset.univ := by
  pointwise []

theorem v17_at (b : Fin 4) (i : Fin 8192) (h : Fin 4) (d : Fin 128) :
    val_main_v17 (F := Ideal) x0 x1 x2 x3 x4 (ix4 b i h d)
      = val_main_v16 (F := Ideal) x0 x1 x2 x3 x4 (ix2 ⟨b.val * 8192 + i.val, by omega⟩ ⟨h.val * 128 + d.val, by omega⟩) := by
  pointwise [val_main_v17]

theorem v22_at (b : Fin 4) (j : Fin 256) (h : Fin 4) (d : Fin 128) :
    val_main_v22 (F := Ideal) x5 (ix4 b j h d) = x5 (ix2 ⟨b.val * 256 + j.val, by omega⟩ ⟨h.val * 128 + d.val, by omega⟩) := by
  pointwise [val_main_v22, val_main_v20, val_main_v19, val_main_v18]

theorem v23_at (b : Fin 4) (j : Fin 256) (h : Fin 4) (d : Fin 128) :
    val_main_v23 (F := Ideal) x5 (ix4 b j h d) = x5 (ix2 ⟨b.val * 256 + j.val, by omega⟩ ⟨512 + (h.val * 128 + d.val), by omega⟩) := by
  pointwise [val_main_v23, val_main_v21, val_main_v19, val_main_v18]
  blk_point []

theorem v16_at (r : Fin 32768) (l : Fin 512) :
    val_main_v16 (F := Ideal) x0 x1 x2 x3 x4 (ix2 r l)
      = query (fun k => val_main_v2 (F := Ideal) x0 x1 x2 (ix2 r k)) (fun k => x3 (ix1 k)) (fun k l => x4 (ix2 k l)) l := by
  pointwise [val_main_v16, val_main_v15, val_main_v14, val_main_v13, val_main_v12, val_main_v11, val_main_v10, val_main_v9, val_main_v8,
    val_main_v7, val_main_v6, val_main_v5, val_main_v4, val_main_v3, val_main_cst, val_main_cst_0, val_main_cst_1]
  simp only [query]

theorem v26_at (b : Fin 4) (h : Fin 4) (i : Fin 8192) (j : Fin 256) :
    val_main_v26 (F := Ideal) x0 x1 x2 x3 x4 x5 (ix4 b h i j)
      = score (fun k => val_main_v16 (F := Ideal) x0 x1 x2 x3 x4 (ix2 ⟨b.val * 8192 + i.val, by omega⟩ k))
          (fun j k => x5 (ix2 ⟨b.val * 256 + j.val, by omega⟩ k)) h j := by
  pointwise [val_main_v26, val_main_v25, val_main_v24, val_main_cst_2]
  simp only [v17_at, v22_at, score]

theorem v29_at (b : Fin 4) (h : Fin 4) (i : Fin 8192) :
    val_main_v29 (F := Ideal) x0 x1 x2 x3 x4 x5 (ix3 b h i)
      = top (fun k => val_main_v16 (F := Ideal) x0 x1 x2 x3 x4 (ix2 ⟨b.val * 8192 + i.val, by omega⟩ k))
          (fun j k => x5 (ix2 ⟨b.val * 256 + j.val, by omega⟩ k)) h := by
  have e : val_main_v27 (F := Ideal) x0 x1 x2 x3 x4 x5 (ix3 b h i)
      = top (fun k => val_main_v16 (F := Ideal) x0 x1 x2 x3 x4 (ix2 ⟨b.val * 8192 + i.val, by omega⟩ k))
          (fun j k => x5 (ix2 ⟨b.val * 256 + j.val, by omega⟩ k)) h := by
    unfold val_main_v27
    rw [max_at]
    simp only [v26_at]
    rfl
  rw [val_main_v29_apply, e, val_main_v28_apply]
  refine max_eq_right ?_
  unfold top
  exact (Finset.le_fold_max _).mpr (Or.inl le_rfl)

/-- The reference's result, row by row. -/
theorem v42_at (r : Fin 32768) (l : Fin 2048) :
    val_main_v42 (F := Ideal) x0 x1 x2 x3 x4 x5 x6 (ix2 r l)
      = outRow (fun k => x0 (ix2 r k) + ∑ i, x1 (ix2 r i) * x2 (ix2 i k)) (fun k => x3 (ix1 k)) (fun k l => x4 (ix2 k l))
          (fun j k => x5 (ix2 ⟨r.val / 8192 * 256 + j.val, by omega⟩ k)) (fun k l => x6 (ix2 k l)) l := by
  have h2 : ∀ k, val_main_v2 (F := Ideal) x0 x1 x2 (ix2 r k) = x0 (ix2 r k) + ∑ i, x1 (ix2 r i) * x2 (ix2 i k) := fun k => by
    pointwise [val_main_v2, val_main_v1, val_main_v0]
  have er : (⟨r.val / 8192 * 8192 + r.val % 8192, by omega⟩ : Fin 32768) = r := Fin.ext (by simp; omega)
  pointwise [val_main_v42, val_main_v41, val_main_v40, val_main_v39, val_main_v38, val_main_v37, val_main_v36, val_main_v35, val_main_v34,
    val_main_v33, val_main_v32, val_main_v31, val_main_v30, val_main_cst_5]
  simp only [v26_at, v29_at, v23_at, v16_at, er, h2, outRow, average]
  congr 1
  refine Finset.sum_congr rfl fun i _ => ?_
  congr 1
  refine Finset.sum_congr rfl fun j _ => ?_
  rw [mul_comm]

end Reference

/-! ## The array after the run -/

variable (m : (ℓ : Loc nD τ sig) → Buf (Elt Ideal) ℓ)

/-- The reference's result over the arrays that the kernel was launched with. -/
def refOut (c : Dev nD) : (⟨S32768x2048, .f32⟩ : BufTy).Contents (Elt Ideal) :=
  val_main_v42 (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))

/-- Where the blocks of each window stand. -/
theorem idx : ∀ t : Fin cfg0.N,
    win0_0.index t = ![t.val, 0] ∧ win0_1.index t = ![t.val, 0] ∧ win0_2.index t = ![0, 0] ∧ win0_3.index t = ![0, 0]
      ∧ win0_4.index t = ![0, 0] ∧ win0_5.index t = ![t.val / 16, 0] ∧ win0_6.index t = ![0, 0] ∧ win0_7.index t = ![t.val, 0] := by
  decide +kernel

/-- The output array after the run is the reference's result. -/
theorem final (c : Dev nD) : (dats m 0 c).arrAt 7 cfg0.N = refOut m c := by
  refine (dats m 0 c).arrAt_eq_of_covers 7 _ (by decide +kernel) fun t hf y => ?_
  blk_simp
  rw [after0_7]
  unfold out0_7 k0_pay13
  frame_out
  obtain ⟨r, l, rfl⟩ : ∃ r l, y = ix2 r l := ⟨y 0, y 1, by blk_ext []⟩
  rw [pay1_apply]
  have ht : t.val < 64 := t.isLt
  have e : (((View.whole main_v4).slice (win0_7.rect t)).emb (ix2 r l)) = ix2 ⟨t.val * 512 + r.val, by omega⟩ l := by
    blk_ext [idx t]
  refine Eq.trans ?_ (congrArg (refOut m c) e).symm
  unfold refOut
  rw [v42_at]
  have e0 : ∀ r k, iblk m c 0 t (ix2 r k) = m ((c.tc : Thread nD τ).loc main_arg0) (ix2 ⟨t.val * 512 + r.val, by omega⟩ k) := fun r k => by
    blk_ext [iblk, V, idx t]
  have e1 : ∀ r k, iblk m c 1 t (ix2 r k) = m ((c.tc : Thread nD τ).loc main_arg1) (ix2 ⟨t.val * 512 + r.val, by omega⟩ k) := fun r k => by
    blk_ext [iblk, V, idx t]
  have e2 : ∀ r k, iblk m c 2 t (ix2 r k) = m ((c.tc : Thread nD τ).loc main_arg2) (ix2 r k) := fun r k => by
    blk_ext [iblk, V, idx t]
  have e3 : ∀ k, iblk m c 3 t (ix2 0 k) = m ((c.tc : Thread nD τ).loc main_arg3) (ix1 k) := fun k => by
    blk_point [iblk, V, idx t]
  have e4 : ∀ r k, iblk m c 4 t (ix2 r k) = m ((c.tc : Thread nD τ).loc main_arg4) (ix2 r k) := fun r k => by
    blk_ext [iblk, V, idx t]
  have e5 : ∀ (j : Fin 256) k, iblk m c 5 t (ix2 j k)
      = m ((c.tc : Thread nD τ).loc main_arg5) (ix2 ⟨(t.val * 512 + r.val) / 8192 * 256 + j.val, by omega⟩ k) := fun j k => by
    blk_ext [iblk, V, idx t]
  have e6 : ∀ r k, iblk m c 6 t (ix2 r k) = m ((c.tc : Thread nD τ).loc main_arg6) (ix2 r k) := fun r k => by
    blk_ext [iblk, V, idx t]
  simp only [e0, e1, e2, e3, e4, e5, e6]

end Cert.Kernel2Ideal.RefValue

end
-- ==== Proof.Mix.lean ====
module

public import proofs.«01_k».proof.Proof.Gen.Kernel3Ideal.Value
public import proofs.«01_k».proof.Proof.Gen.Reference3Ideal.Read
public import Idealize.ShloMosaic.Lib.Pointwise
public import Idealize.ShloMosaic.Lib.Pipeline.ValueKit

@[expose] public section

noncomputable section

namespace Cert.Kernel3Ideal.RefValue

open Cert.Kernel3Ideal Cert.Kernel3Ideal.Gen Idealize.ShloMosaic Idealize.SL.Sem
open Cert.Reference3Ideal.Read

variable (m : (ℓ : Loc nD τ sig) → Buf (Elt Ideal) ℓ)

/-- The reference's result over the arrays that the kernel was launched with. -/
def refOut (c : Dev nD) : (⟨S32768x2048, .bf16⟩ : BufTy).Contents (Elt Ideal) :=
  val_main_v26 (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))

/-- Where the blocks of each window stand: row tile `t / 4`, column tile `t % 4`. -/
theorem idx : ∀ t : Fin cfg0.N,
    win0_0.index t = ![t.val / 4, 0] ∧ win0_1.index t = ![t.val / 4, 0] ∧ win0_2.index t = ![t.val / 4, 0]
      ∧ win0_3.index t = ![t.val / 4, 0] ∧ win0_4.index t = ![t.val / 4, 0]
      ∧ win0_5.index t = ![0, t.val % 4] ∧ win0_6.index t = ![0, t.val % 4] ∧ win0_7.index t = ![0, t.val % 4]
      ∧ win0_8.index t = ![0, t.val % 4] ∧ win0_9.index t = ![t.val / 4, t.val % 4] := by
  decide +kernel

theorem final (c : Dev nD) : (dats m 0 c).arrAt 9 cfg0.N = refOut m c := by
  refine (dats m 0 c).arrAt_eq_of_covers 9 _ (by decide +kernel) fun t hf y => ?_
  blk_simp
  rw [after0_9]
  frame_out
  unfold refOut
  pointwise [k0_pay1, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_cst, val_main_cst_0, val_main_cst_1, val_main_cst_2]
  simp only [Ideal.logistic]
  blk_point [iblk, V, idx t]

end Cert.Kernel3Ideal.RefValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Norm
public import proofs.«01_k».proof.Proof.Memory
public import proofs.«01_k».proof.Proof.Misc
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11Ideal.Value
public import proofs.«01_k».proof.Proof.Gen.Reference11Ideal.Run
public import proofs.«01_k».proof.Proof.Gen.Reference11Ideal.Read
public import proofs.«01_k».proof.Proof.Keys
public import proofs.«01_k».proof.Proof.Compress
public import proofs.«01_k».proof.Proof.Values
public import proofs.«01_k».proof.Proof.Latent
public import proofs.«01_k».proof.Proof.Attn
public import proofs.«01_k».proof.Proof.Mlp
public import proofs.«01_k».proof.Proof.Xattn
public import proofs.«01_k».proof.Proof.Mix
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The host program of reference 1 ends with its arguments unchanged and no pending counter. -/
theorem refFrame1 : quiescent_ReferenceIdeal (hReferenceIdeal := Cert.ReferenceIdeal.Gen.facts) := by
  letI := Cert.ReferenceIdeal.Gen.facts
  intro m g _
  hlo_run
  · exact fun _ => by simp only [and_self]
  · exact sem_eq_zero_of_no_sems (sig := Cert.ReferenceIdeal.sig) (by decide) _

/-- Call 1 and its reference leave equal results from equal arguments. -/
theorem algebraic1 : algebraic_KernelIdeal_ReferenceIdeal (hKernelIdeal := Cert.KernelIdeal.Gen.facts) (hReferenceIdeal := Cert.ReferenceIdeal.Gen.facts) := by
  pair_intro
  · run_from Cert.KernelIdeal.Value.run_blocks m g
  · run_from Cert.ReferenceIdeal.Value.run m' g'
    obtain ⟨h0, h1, h2, h3, h4⟩ := hagree c
    refine (Cert.ReferenceIdeal.Read.val_main_v30_eq ..).trans (Eq.trans ?_ (Cert.KernelIdeal.RefValue.final m c).symm)
    rw [h0, h1, h2, h3, h4]
    rfl

/-- The host program of reference 2 ends with its arguments unchanged and no pending counter. -/
theorem refFrame2 : quiescent_Reference2Ideal (hReference2Ideal := Cert.Reference2Ideal.Gen.facts) := by
  letI := Cert.Reference2Ideal.Gen.facts
  intro m g _
  hlo_run
  · exact fun _ => by simp only [and_self]
  · exact sem_eq_zero_of_no_sems (sig := Cert.Reference2Ideal.sig) (by decide) _

/-- Call 2 and its reference leave equal results from equal arguments. -/
theorem algebraic2 : algebraic_Kernel2Ideal_Reference2Ideal (hKernel2Ideal := Cert.Kernel2Ideal.Gen.facts) (hReference2Ideal := Cert.Reference2Ideal.Gen.facts) := by
  pair_intro
  · run_from Cert.Kernel2Ideal.Value.run_blocks m g
  · run_from Cert.Reference2Ideal.Value.run m' g'
    obtain ⟨h0, h1, h2, h3, h4, h5, h6⟩ := hagree c
    refine (Cert.Reference2Ideal.Read.val_main_v42_eq ..).trans (Eq.trans ?_ (Cert.Kernel2Ideal.RefValue.final m c).symm)
    rw [h0, h1, h2, h3, h4, h5, h6]
    rfl

/-- The host program of reference 3 ends with its arguments unchanged and no pending counter. -/
theorem refFrame3 : quiescent_Reference3Ideal (hReference3Ideal := Cert.Reference3Ideal.Gen.facts) := by
  letI := Cert.Reference3Ideal.Gen.facts
  intro m g _
  hlo_run
  · exact fun _ => by simp only [and_self]
  · exact sem_eq_zero_of_no_sems (sig := Cert.Reference3Ideal.sig) (by decide) _

/-- Call 3 and its reference leave equal results from equal arguments. -/
theorem algebraic3 : algebraic_Kernel3Ideal_Reference3Ideal (hKernel3Ideal := Cert.Kernel3Ideal.Gen.facts) (hReference3Ideal := Cert.Reference3Ideal.Gen.facts) := by
  pair_intro
  · run_from Cert.Kernel3Ideal.Value.run_blocks m g
  · run_from Cert.Reference3Ideal.Value.run m' g'
    exact (Cert.Reference3Ideal.Read.val_main_v26_eq ..).trans (Cert.Kernel3Ideal.RefValue.final m c).symm

/-- The host program of reference 4 ends with its arguments unchanged and no pending counter. -/
theorem refFrame4 : quiescent_Reference4Ideal (hReference4Ideal := Cert.Reference4Ideal.Gen.facts) := by
  letI := Cert.Reference4Ideal.Gen.facts
  intro m g _
  hlo_run
  · exact fun _ => by simp only [and_self]
  · exact sem_eq_zero_of_no_sems (sig := Cert.Reference4Ideal.sig) (by decide) _

/-- The mask's constant stands for the extended reals' least element. -/
theorem preserves4 : preserves_Kernel4_Kernel4Ideal :=
  IdealRules.named_const.statement Cert.Kernel4Ideal.κ "mask" .f32 0xF149F2CA#32 ⊥ rfl

set_option maxRecDepth 20000 in
/-- Call 4 and its reference leave equal results from equal arguments. -/
theorem algebraic4 : algebraic_Kernel4Ideal_Reference4Ideal (hKernel4Ideal := Cert.Kernel4Ideal.Gen.facts) (hReference4Ideal := Cert.Reference4Ideal.Gen.facts) := by
  pair_intro
  · run_from Cert.Kernel4Ideal.Value.run_blocks m g
  · run_from Cert.Reference4Ideal.Value.run m' g'
    obtain ⟨h0, h1, h2⟩ := hagree c
    refine (Cert.Reference4Ideal.Read.val_main_v29_eq ..).trans (Eq.trans ?_ (Cert.Kernel4Ideal.RefValue.final m c).symm)
    rw [h0, h1, h2]
    rfl

theorem refFrame5 : quiescent_Reference5Ideal (hReference5Ideal := Cert.Reference5Ideal.Gen.facts) := by
  letI := Cert.Reference5Ideal.Gen.facts
  intro m g _
  hlo_run
  · exact fun _ => by simp only [and_self]
  · exact sem_eq_zero_of_no_sems (sig := Cert.Reference5Ideal.sig) (by decide) _

/-- The kernel and the reference agree on the norm of the rows. -/
theorem algebraic5 :
    algebraic_Kernel5Ideal_Reference5Ideal (hKernel5Ideal := Cert.Kernel5Ideal.Gen.facts)
      (hReference5Ideal := Cert.Reference5Ideal.Gen.facts) := by
  pair_intro
  · run_from Cert.Kernel5Ideal.Value.run_blocks m g
  · run_from Cert.Reference5Ideal.Value.run m' g'
    exact (Cert.Reference5Ideal.Read.val_main_v13_eq ..).trans (Cert.Kernel5Ideal.RefValue.final m c).symm

theorem refFrame6 : quiescent_Reference6Ideal (hReference6Ideal := Cert.Reference6Ideal.Gen.facts) := by
  letI := Cert.Reference6Ideal.Gen.facts
  intro m g _
  hlo_run
  · exact fun _ => by simp only [and_self]
  · exact sem_eq_zero_of_no_sems (sig := Cert.Reference6Ideal.sig) (by decide) _

/-- The kernel and the reference agree on the memory's keys and values. -/
theorem algebraic6 :
    algebraic_Kernel6Ideal_Reference6Ideal (hKernel6Ideal := Cert.Kernel6Ideal.Gen.facts)
      (hReference6Ideal := Cert.Reference6Ideal.Gen.facts) := by
  pair_intro
  · run_from Cert.Kernel6Ideal.Value.run_blocks m g
  · run_from Cert.Reference6Ideal.Value.run m' g'
    exact (Cert.Reference6Ideal.Read.val_main_v14_eq ..).trans (Cert.Kernel6Ideal.RefValue.final m c).symm

theorem refFrame7 : quiescent_Reference7Ideal (hReference7Ideal := Cert.Reference7Ideal.Gen.facts) := by
  letI := Cert.Reference7Ideal.Gen.facts
  intro m g _
  hlo_run
  · exact fun _ => by simp only [and_self]
  · exact sem_eq_zero_of_no_sems (sig := Cert.Reference7Ideal.sig) (by decide) _

/-- The kernel and the reference agree on the miscellaneous columns of the input projection. -/
theorem algebraic7 :
    algebraic_Kernel7Ideal_Reference7Ideal (hKernel7Ideal := Cert.Kernel7Ideal.Gen.facts)
      (hReference7Ideal := Cert.Reference7Ideal.Gen.facts) := by
  pair_intro
  · run_from Cert.Kernel7Ideal.Value.run_blocks m g
  · run_from Cert.Reference7Ideal.Value.run m' g'
    exact (Cert.Reference7Ideal.Read.val_main_v1_eq ..).trans (Cert.Kernel7Ideal.RefValue.final m c).symm

theorem refFrame8 : quiescent_Reference8Ideal (hReference8Ideal := Cert.Reference8Ideal.Gen.facts) := by
  letI := Cert.Reference8Ideal.Gen.facts
  intro m g _
  hlo_run
  · exact fun _ => by simp only [and_self]
  · exact sem_eq_zero_of_no_sems (sig := Cert.Reference8Ideal.sig) (by decide) _

/-- The kernel and the reference agree on the values of the first mixer. -/
theorem algebraic8 :
    algebraic_Kernel8Ideal_Reference8Ideal (hKernel8Ideal := Cert.Kernel8Ideal.Gen.facts)
      (hReference8Ideal := Cert.Reference8Ideal.Gen.facts) := by
  pair_intro
  · run_from Cert.Kernel8Ideal.Value.run_blocks m g
  · run_from Cert.Reference8Ideal.Value.run m' g'
    exact (Cert.Reference8Ideal.Read.val_main_v11_eq ..).trans (Cert.Kernel8Ideal.RefValue.final m c).symm

theorem refFrame9 : quiescent_Reference9Ideal (hReference9Ideal := Cert.Reference9Ideal.Gen.facts) := by
  letI := Cert.Reference9Ideal.Gen.facts
  intro m g _
  hlo_run
  · exact fun _ => by simp only [and_self]
  · exact sem_eq_zero_of_no_sems (sig := Cert.Reference9Ideal.sig) (by decide) _

/-- The kernel and the reference agree on the values of the second mixer. -/
theorem algebraic9 :
    algebraic_Kernel9Ideal_Reference9Ideal (hKernel9Ideal := Cert.Kernel9Ideal.Gen.facts)
      (hReference9Ideal := Cert.Reference9Ideal.Gen.facts) := by
  pair_intro
  · run_from Cert.Kernel9Ideal.Value.run_blocks m g
  · run_from Cert.Reference9Ideal.Value.run m' g'
    exact (Cert.Reference9Ideal.Read.val_main_v18_eq ..).trans (Cert.Kernel9Ideal.RefValue.final m c).symm

theorem refFrame10 : quiescent_Reference10Ideal (hReference10Ideal := Cert.Reference10Ideal.Gen.facts) := by
  letI := Cert.Reference10Ideal.Gen.facts
  intro m g _
  hlo_run
  · exact fun _ => by simp only [and_self]
  · exact sem_eq_zero_of_no_sems (sig := Cert.Reference10Ideal.sig) (by decide) _

/-- The kernel and the reference agree on the compressed keys or values of the first mixer. -/
theorem algebraic10 :
    algebraic_Kernel10Ideal_Reference10Ideal (hKernel10Ideal := Cert.Kernel10Ideal.Gen.facts)
      (hReference10Ideal := Cert.Reference10Ideal.Gen.facts) := by
  pair_intro
  · run_from Cert.Kernel10Ideal.Value.run_blocks m g
  · run_from Cert.Reference10Ideal.Value.run m' g'
    obtain ⟨h0, h1, h2, h3⟩ := hagree c
    refine (Cert.Reference10Ideal.Read.val_main_v23_eq ..).trans (Eq.trans ?_ (Cert.Kernel10Ideal.RefValue.final m c).symm)
    rw [h0, h1, h2, h3]
    rfl

theorem refFrame11 : quiescent_Reference11Ideal (hReference11Ideal := Cert.Reference11Ideal.Gen.facts) := by
  letI := Cert.Reference11Ideal.Gen.facts
  intro m g _
  hlo_run
  · exact fun _ => by simp only [and_self]
  · exact sem_eq_zero_of_no_sems (sig := Cert.Reference11Ideal.sig) (by decide) _

/-- The kernel and the reference agree on the keys of the second mixer. -/
theorem algebraic11 :
    algebraic_Kernel11Ideal_Reference11Ideal (hKernel11Ideal := Cert.Kernel11Ideal.Gen.facts)
      (hReference11Ideal := Cert.Reference11Ideal.Gen.facts) := by
  pair_intro
  · run_from Cert.Kernel11Ideal.Value.run_blocks m g
  · run_from Cert.Reference11Ideal.Value.run m' g'
    obtain ⟨h0, h1, h2, h3⟩ := hagree c
    refine (Cert.Reference11Ideal.Read.val_main_v22_eq ..).trans (Eq.trans ?_ (Cert.Kernel11Ideal.RefValue.final m c).symm)
    exact congrArg (Cert.Reference11Ideal.Read.val_main_v22 (F := Ideal) _ _ _) h3

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    fun m ρ _ => Cert.Kernel.Gen.frame m ρ, fun m ρ _ => Cert.KernelIdeal.Gen.frame m ρ, refFrame1,
    fun m ρ _ => Cert.Kernel2.Gen.frame m ρ, fun m ρ _ => Cert.Kernel2Ideal.Gen.frame m ρ, refFrame2,
    fun m ρ _ => Cert.Kernel3.Gen.frame m ρ, fun m ρ _ => Cert.Kernel3Ideal.Gen.frame m ρ, refFrame3,
    fun m ρ _ => Cert.Kernel4.Gen.frame m ρ, fun m ρ _ => Cert.Kernel4Ideal.Gen.frame m ρ, refFrame4,
    fun m ρ _ => Cert.Kernel5.Gen.frame m ρ, fun m ρ _ => Cert.Kernel5Ideal.Gen.frame m ρ, refFrame5,
    fun m ρ _ => Cert.Kernel6.Gen.frame m ρ, fun m ρ _ => Cert.Kernel6Ideal.Gen.frame m ρ, refFrame6,
    fun m ρ _ => Cert.Kernel7.Gen.frame m ρ, fun m ρ _ => Cert.Kernel7Ideal.Gen.frame m ρ, refFrame7,
    fun m ρ _ => Cert.Kernel8.Gen.frame m ρ, fun m ρ _ => Cert.Kernel8Ideal.Gen.frame m ρ, refFrame8,
    fun m ρ _ => Cert.Kernel9.Gen.frame m ρ, fun m ρ _ => Cert.Kernel9Ideal.Gen.frame m ρ, refFrame9,
    fun m ρ _ => Cert.Kernel10.Gen.frame m ρ, fun m ρ _ => Cert.Kernel10Ideal.Gen.frame m ρ, refFrame10,
    fun m ρ _ => Cert.Kernel11.Gen.frame m ρ, fun m ρ _ => Cert.Kernel11Ideal.Gen.frame m ρ, refFrame11,
    trivial, algebraic1, trivial, algebraic2, trivial, algebraic3, preserves4, algebraic4,
    trivial, algebraic5, trivial, algebraic6, trivial, algebraic7, trivial, algebraic8, trivial, algebraic9,
    trivial, algebraic10, trivial, algebraic11⟩

end Cert.Proof

end
